-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S2x256x8192 : Shape := ⟨3, ![2, 256, 8192]⟩
abbrev S2x2 : Shape := ⟨2, ![2, 2]⟩
abbrev S2 : Shape := ⟨1, ![2]⟩
abbrev S_ : Shape := ⟨0, ![]⟩
abbrev S256x512 : Shape := ⟨2, ![256, 512]⟩
abbrev S256x8192 : Shape := ⟨2, ![256, 8192]⟩
abbrev S1x256x8192 : Shape := ⟨3, ![1, 256, 8192]⟩
abbrev S1x1 : Shape := ⟨2, ![1, 1]⟩
abbrev S1x128x8192 : Shape := ⟨3, ![1, 128, 8192]⟩
abbrev S128x8192 : Shape := ⟨2, ![128, 8192]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S512x8192, .f32⟩
  | .local _ .vmem, ⟨0, _⟩ => ⟨S4096x512, .bf16⟩
  | .local _ .vmem, ⟨1, _⟩ => ⟨S512x8192, .bf16⟩
  | .local _ .vmem, ⟨2, _⟩ => ⟨S512x8192, .f32⟩
  | .local _ .vmem, ⟨3, _⟩ => ⟨S2x256x8192, .bf16⟩
  | .local _ .vmem, ⟨4, _⟩ => ⟨S2x256x8192, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 5 19 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c512_i32 : BitVec 32 := 512#32
  let v13 : BitVec 32 := Scalar.muli v5 c512_i32
  let v14 : Index := Scalar.indexCast v13
  let c0 : Index := 0#32
  ![v14.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c512_i32_15 : BitVec 32 := 512#32
  let v24 : BitVec 32 := Scalar.muli v7 c512_i32_15
  let c256_i32 : BitVec 32 := 256#32
  let v25 : BitVec 32 := Scalar.addi v24 c256_i32
  let v26 : Index := Scalar.indexCast v25
  let c0_16 : Index := 0#32
  ![v26.toNat, 0]
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_29 : BitVec 32 := 1#32
  let v36 : BitVec 32 := Scalar.muli v7 c1_i32_29
  let v37 : BitVec 32 := Scalar.addi c0_i32_30 v36
  v37.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_41 : BitVec 32 := 1#32
  let v46 : BitVec 32 := Scalar.muli v5 c1_i32_41
  let v47 : BitVec 32 := Scalar.addi c0_i32_42 v46
  v47.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_53 : BitVec 32 := 1#32
  let v56 : BitVec 32 := Scalar.muli v7 c1_i32_53
  let v57 : BitVec 32 := Scalar.addi c0_i32_54 v56
  v57.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_64 : BitVec 32 := 1#32
  let v66 : BitVec 32 := Scalar.muli v5 c1_i32_64
  let v67 : BitVec 32 := Scalar.addi c0_i32_65 v66
  v67.toNat
def k0_off3 (d0 : Dev nD) (c0_i32_70 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v76 : BitVec 32 := Scalar.addi v2 c16_i32
  let v77 : BitVec 32 := Scalar.subi v76 c0_i32_70
  let c2_i32_71 : BitVec 32 := 2#32
  let v78 : BitVec 32 := Scalar.subi v77 c2_i32_71
  let c8_i32_72 : BitVec 32 := 8#32
  let v79 : BitVec 32 := Scalar.remsi v78 c8_i32_72
  let c512_i32_73 : BitVec 32 := 512#32
  let v80 : BitVec 32 := Scalar.muli v79 c512_i32_73
  let v81 : Index := Scalar.indexCast v80
  let c0_74 : Index := 0#32
  ![v81.toNat, 0]
def k0_off4 (d0 : Dev nD) (c0_i32_78 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v87 : BitVec 32 := Scalar.addi v2 c0_i32_78
  let c2_i32_79 : BitVec 32 := 2#32
  let v88 : BitVec 32 := Scalar.addi v87 c2_i32_79
  let c8_i32_80 : BitVec 32 := 8#32
  let v89 : BitVec 32 := Scalar.remsi v88 c8_i32_80
  let c512_i32_81 : BitVec 32 := 512#32
  let v90 : BitVec 32 := Scalar.muli v89 c512_i32_81
  let c256_i32_82 : BitVec 32 := 256#32
  let v91 : BitVec 32 := Scalar.addi v90 c256_i32_82
  let v92 : Index := Scalar.indexCast v91
  let c0_83 : Index := 0#32
  ![v92.toNat, 0]
def k0_dev7 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_133 : BitVec 32 := 1#32
  let v124 : BitVec 32 := Scalar.muli v5 c1_i32_133
  let v125 : BitVec 32 := Scalar.addi c0_i32_134 v124
  v125.toNat
def k0_dev8 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_137 : BitVec 32 := 1#32
  let v128 : BitVec 32 := Scalar.muli v7 c1_i32_137
  let v129 : BitVec 32 := Scalar.addi c0_i32_138 v128
  v129.toNat
def k0_dev9 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_186 : BitVec 32 := 1#32
  let v168 : BitVec 32 := Scalar.muli v7 c1_i32_186
  let v169 : BitVec 32 := Scalar.addi c0_i32_187 v168
  v169.toNat
def k0_dev10 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_198 : BitVec 32 := 1#32
  let v178 : BitVec 32 := Scalar.muli v5 c1_i32_198
  let v179 : BitVec 32 := Scalar.addi c0_i32_199 v178
  v179.toNat
def k0_dev11 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_245 : BitVec 32 := 1#32
  let v222 : BitVec 32 := Scalar.muli v7 c1_i32_245
  let v223 : BitVec 32 := Scalar.addi c0_i32_246 v222
  v223.toNat
def k0_dev12 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_257 : BitVec 32 := 1#32
  let v232 : BitVec 32 := Scalar.muli v5 c1_i32_257
  let v233 : BitVec 32 := Scalar.addi c0_i32_258 v232
  v233.toNat
def k0_dev13 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_327 : BitVec 32 := 1#32
  let v290 : BitVec 32 := Scalar.muli v5 c1_i32_327
  let v291 : BitVec 32 := Scalar.addi c0_i32_328 v290
  v291.toNat
def k0_dev14 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_331 : BitVec 32 := 1#32
  let v294 : BitVec 32 := Scalar.muli v7 c1_i32_331
  let v295 : BitVec 32 := Scalar.addi c0_i32_332 v294
  v295.toNat
def k0_dev15 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_381 : BitVec 32 := 1#32
  let v334 : BitVec 32 := Scalar.muli v7 c1_i32_381
  let v335 : BitVec 32 := Scalar.addi c0_i32_382 v334
  v335.toNat
def k0_dev16 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_393 : BitVec 32 := 1#32
  let v344 : BitVec 32 := Scalar.muli v5 c1_i32_393
  let v345 : BitVec 32 := Scalar.addi c0_i32_394 v344
  v345.toNat
def k0_dev17 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_441 : BitVec 32 := 1#32
  let v388 : BitVec 32 := Scalar.muli v7 c1_i32_441
  let v389 : BitVec 32 := Scalar.addi c0_i32_442 v388
  v389.toNat
def k0_dev18 (d0 : Dev nD) : Nat :=
  let c0_i32_454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_453 : BitVec 32 := 1#32
  let v398 : BitVec 32 := Scalar.muli v5 c1_i32_453
  let v399 : BitVec 32 := Scalar.addi c0_i32_454 v398
  v399.toNat
def k0_dev19 (d0 : Dev nD) : Nat :=
  let c0_i32_524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_523 : BitVec 32 := 1#32
  let v456 : BitVec 32 := Scalar.muli v5 c1_i32_523
  let v457 : BitVec 32 := Scalar.addi c0_i32_524 v456
  v457.toNat
def k0_dev20 (d0 : Dev nD) : Nat :=
  let c0_i32_528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_527 : BitVec 32 := 1#32
  let v460 : BitVec 32 := Scalar.muli v7 c1_i32_527
  let v461 : BitVec 32 := Scalar.addi c0_i32_528 v460
  v461.toNat
def k0_dev21 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_577 : BitVec 32 := 1#32
  let v500 : BitVec 32 := Scalar.muli v7 c1_i32_577
  let v501 : BitVec 32 := Scalar.addi c0_i32_578 v500
  v501.toNat
def k0_dev22 (d0 : Dev nD) : Nat :=
  let c0_i32_590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_589 : BitVec 32 := 1#32
  let v510 : BitVec 32 := Scalar.muli v5 c1_i32_589
  let v511 : BitVec 32 := Scalar.addi c0_i32_590 v510
  v511.toNat
def k0_dev23 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_637 : BitVec 32 := 1#32
  let v554 : BitVec 32 := Scalar.muli v7 c1_i32_637
  let v555 : BitVec 32 := Scalar.addi c0_i32_638 v554
  v555.toNat
def k0_dev24 (d0 : Dev nD) : Nat :=
  let c0_i32_650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_649 : BitVec 32 := 1#32
  let v564 : BitVec 32 := Scalar.muli v5 c1_i32_649
  let v565 : BitVec 32 := Scalar.addi c0_i32_650 v564
  v565.toNat
def k0_dev25 (d0 : Dev nD) : Nat :=
  let c0_i32_719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_718 : BitVec 32 := 1#32
  let v622 : BitVec 32 := Scalar.muli v5 c1_i32_718
  let v623 : BitVec 32 := Scalar.addi c0_i32_719 v622
  v623.toNat
def k0_dev26 (d0 : Dev nD) : Nat :=
  let c0_i32_723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_722 : BitVec 32 := 1#32
  let v626 : BitVec 32 := Scalar.muli v7 c1_i32_722
  let v627 : BitVec 32 := Scalar.addi c0_i32_723 v626
  v627.toNat
def k0_dev27 (d0 : Dev nD) : Nat :=
  let c0_i32_773 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_772 : BitVec 32 := 1#32
  let v666 : BitVec 32 := Scalar.muli v7 c1_i32_772
  let v667 : BitVec 32 := Scalar.addi c0_i32_773 v666
  v667.toNat
def k0_dev28 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_784 : BitVec 32 := 1#32
  let v676 : BitVec 32 := Scalar.muli v5 c1_i32_784
  let v677 : BitVec 32 := Scalar.addi c0_i32_785 v676
  v677.toNat
def k0_dev29 (d0 : Dev nD) : Nat :=
  let c0_i32_833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_832 : BitVec 32 := 1#32
  let v720 : BitVec 32 := Scalar.muli v7 c1_i32_832
  let v721 : BitVec 32 := Scalar.addi c0_i32_833 v720
  v721.toNat
def k0_dev30 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_844 : BitVec 32 := 1#32
  let v730 : BitVec 32 := Scalar.muli v5 c1_i32_844
  let v731 : BitVec 32 := Scalar.addi c0_i32_845 v730
  v731.toNat
def k0_dev31 (d0 : Dev nD) : Nat :=
  let c0_i32_914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_913 : BitVec 32 := 1#32
  let v788 : BitVec 32 := Scalar.muli v5 c1_i32_913
  let v789 : BitVec 32 := Scalar.addi c0_i32_914 v788
  v789.toNat
def k0_dev32 (d0 : Dev nD) : Nat :=
  let c0_i32_918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_917 : BitVec 32 := 1#32
  let v792 : BitVec 32 := Scalar.muli v7 c1_i32_917
  let v793 : BitVec 32 := Scalar.addi c0_i32_918 v792
  v793.toNat
def k0_dev33 (d0 : Dev nD) : Nat :=
  let c0_i32_968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_967 : BitVec 32 := 1#32
  let v832 : BitVec 32 := Scalar.muli v7 c1_i32_967
  let v833 : BitVec 32 := Scalar.addi c0_i32_968 v832
  v833.toNat
def k0_dev34 (d0 : Dev nD) : Nat :=
  let c0_i32_980 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_979 : BitVec 32 := 1#32
  let v842 : BitVec 32 := Scalar.muli v5 c1_i32_979
  let v843 : BitVec 32 := Scalar.addi c0_i32_980 v842
  v843.toNat
def k0_dev35 (d0 : Dev nD) : Nat :=
  let c0_i32_1028 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1027 : BitVec 32 := 1#32
  let v886 : BitVec 32 := Scalar.muli v7 c1_i32_1027
  let v887 : BitVec 32 := Scalar.addi c0_i32_1028 v886
  v887.toNat
def k0_dev36 (d0 : Dev nD) : Nat :=
  let c0_i32_1040 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1039 : BitVec 32 := 1#32
  let v896 : BitVec 32 := Scalar.muli v5 c1_i32_1039
  let v897 : BitVec 32 := Scalar.addi c0_i32_1040 v896
  v897.toNat
def k0_dev37 (d0 : Dev nD) : Nat :=
  let c0_i32_1109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1108 : BitVec 32 := 1#32
  let v954 : BitVec 32 := Scalar.muli v5 c1_i32_1108
  let v955 : BitVec 32 := Scalar.addi c0_i32_1109 v954
  v955.toNat
def k0_dev38 (d0 : Dev nD) : Nat :=
  let c0_i32_1113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1112 : BitVec 32 := 1#32
  let v958 : BitVec 32 := Scalar.muli v7 c1_i32_1112
  let v959 : BitVec 32 := Scalar.addi c0_i32_1113 v958
  v959.toNat
def k0_dev39 (d0 : Dev nD) : Nat :=
  let c0_i32_1163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1162 : BitVec 32 := 1#32
  let v998 : BitVec 32 := Scalar.muli v7 c1_i32_1162
  let v999 : BitVec 32 := Scalar.addi c0_i32_1163 v998
  v999.toNat
def k0_dev40 (d0 : Dev nD) : Nat :=
  let c0_i32_1175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1174 : BitVec 32 := 1#32
  let v1008 : BitVec 32 := Scalar.muli v5 c1_i32_1174
  let v1009 : BitVec 32 := Scalar.addi c0_i32_1175 v1008
  v1009.toNat
def k0_dev41 (d0 : Dev nD) : Nat :=
  let c0_i32_1223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1222 : BitVec 32 := 1#32
  let v1052 : BitVec 32 := Scalar.muli v7 c1_i32_1222
  let v1053 : BitVec 32 := Scalar.addi c0_i32_1223 v1052
  v1053.toNat
def k0_dev42 (d0 : Dev nD) : Nat :=
  let c0_i32_1235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1234 : BitVec 32 := 1#32
  let v1062 : BitVec 32 := Scalar.muli v5 c1_i32_1234
  let v1063 : BitVec 32 := Scalar.addi c0_i32_1235 v1062
  v1063.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Ideal.Prog.lean ====
/-
# The kernel's body as one generic text

The printed body is straight-line: seven ring steps unrolled, each for two directions and two row halves. This module
writes it once as programs over a direction (`true`: towards the next device, through the first communication buffer;
`false`: towards the previous one, through the second), a step number and a row half, and shows that the printed
body is their sequence.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.RingPf

open Cert.KernelIdeal Cert.KernelIdeal.Gen

open Idealize.ShloMosaic
open Idealize.ShloMosaic.TcCoe
open Idealize.SL.Sem

variable {F : FTy → Type} [FloatOps F]

/-! ## The ring -/

set_option backward.proofsInPublic true in
/-- The device after `c` on the ring. -/
def nxt (c : Dev nD) : Dev nD := ⟨(c.val + 1) % 8, Nat.mod_lt _ (by decide)⟩
set_option backward.proofsInPublic true in
/-- The device before `c` on the ring. -/
def prv (c : Dev nD) : Dev nD := ⟨(c.val + 7) % 8, Nat.mod_lt _ (by decide)⟩

/-- The device before the one after `c` is `c`. -/
theorem prv_nxt (c : Dev nD) : prv (nxt c) = c := by revert c; decide
/-- The device after the one before `c` is `c`. -/
theorem nxt_prv (c : Dev nD) : nxt (prv c) = c := by revert c; decide

/-- The device that `c` sends to in direction `δ`. -/
def tg : Bool → Dev nD → Dev nD
  | true => nxt
  | false => prv

/-- The device that `c` receives from in direction `δ`. -/
def fr (δ : Bool) (c : Dev nD) : Dev nD := tg (!δ) c

/-- The device that `c` receives from sends to `c`. -/
theorem tg_fr (δ : Bool) (c : Dev nD) : tg δ (fr δ c) = c := by
  cases δ
  · exact prv_nxt c
  · exact nxt_prv c

/-- The device that `c` sends to receives from `c`. -/
theorem fr_tg (δ : Bool) (c : Dev nD) : fr δ (tg δ c) = c := by
  cases δ
  · exact nxt_prv c
  · exact prv_nxt c

/-- Sending in one direction goes where the other direction comes from. -/
theorem tg_not (δ : Bool) (c : Dev nD) : tg (!δ) c = fr δ c := rfl

/-- The addressed device as the program computes it. -/
def toD : Bool → Dev nD → Dev nD
  | true, d => ⟨k0_dev3 d, k0_dev3_lt d⟩
  | false, d => ⟨k0_dev4 d, k0_dev4_lt d⟩

/-- The addressed device is the neighbour in that direction. -/
theorem toD_eq (δ : Bool) (c : Dev nD) : toD δ c = tg δ c := by
  cases δ
  · exact Fin.ext (k0_dev4_eq c)
  · exact Fin.ext (k0_dev3_eq c)

/-- The slot that step `s` sends from. -/
def sl (s : ℕ) : Fin 2 := ⟨s % 2, Nat.mod_lt _ (by decide)⟩

/-- Slots alternate. -/
theorem sl_add_two (s : ℕ) : sl (s + 2) = sl s := Fin.ext (by simp [sl])

/-! ## The memrefs and semaphores -/

/-- The staged block of `x`. -/
abbrev xM : Memref sig .tc .vmem S4096x512 .bf16 := Memref.whole cc0_stg0_0
/-- The staged block of `w`. -/
abbrev wM : Memref sig .tc .vmem S512x8192 .bf16 := Memref.whole cc0_stg1_0
/-- The staged block of the result. -/
abbrev oM : Memref sig .tc .vmem S512x8192 .f32 := Memref.whole cc0_stg2_0

/-- The communication buffer of direction `δ`. -/
def commM : Bool → Memref sig .tc .vmem S2x256x8192 .bf16
  | true => Memref.whole cc0_scratch0
  | false => Memref.whole cc0_scratch1

/-- A communication buffer is named whole. -/
theorem commW (δ : Bool) : (commM δ).IsWhole := by cases δ <;> exact Memref.isWhole_whole _

/-- Slot `p`, row half `j`, lies in the communication buffer. -/
theorem subInb (p j : Fin 2) : ∀ a, (![p.val, 128 * j.val, 0] : Fin 3 → Nat) a + S1x128x8192.size a ≤ S2x256x8192.size a := by
  revert p j; decide

/-- Slot `p`, row half `j`, of a communication buffer. -/
abbrev subR (p j : Fin 2) : Rect S2x256x8192 := Rect.unit (s := S2x256x8192) ![p.val, 128 * j.val, 0] S1x128x8192.size (subInb p j)

/-- A half of a slot is made of whole words. -/
theorem subWords (p j : Fin 2) : (subR p j).WholeWords (EltTy.packing .bf16) := by
  revert p j; decide
/-- A half of a slot has its rows packed whole. -/
theorem subPacked (p j : Fin 2) : (subR p j).PackedRows (EltTy.packing .bf16) := by
  revert p j; decide

/-- That row half as a memref of two axes, the way transfers name it. -/
def subM (δ : Bool) (p j : Fin 2) : Memref sig .tc .vmem S128x8192 .bf16 :=
  ((commM δ).slice (subR p j) (fun _ => rfl)).squeeze S128x8192 squeezes_S1x128x8192_S128x8192

/-- So a transfer of it moves exactly its words. -/
theorem subWE (δ : Bool) (p j : Fin 2) : (subM δ p j).view.WordExact :=
  ((commW δ).wordExact_slice rfl _ (subWords p j)).reshape _ _

/-- The semaphore of a slot's half lies in its array. -/
theorem semInb (p j : Fin 2) : ∀ a, (![p.val, j.val] : Fin 2 → Nat) a + S1x1.size a ≤ S2x2.size a := by
  revert p j; decide
/-- The semaphore of a slot lies in its array. -/
theorem semInb₁ (p : Fin 2) : ∀ a, (![p.val] : Fin 1 → Nat) a + S1.size a ≤ S2.size a := by
  revert p; decide

/-- The send semaphores of direction `δ`. -/
def sdA : Bool → DmaSems sig S2x2
  | true => cc0_scratch2
  | false => cc0_scratch4
/-- The receive semaphores of direction `δ`. -/
def rvA : Bool → DmaSems sig S2x2
  | true => cc0_scratch3
  | false => cc0_scratch5
/-- The credit semaphores of direction `δ`. -/
def crA : Bool → Sems sig S2
  | true => cc0_scratch6
  | false => cc0_scratch7

/-- The semaphore that a send from slot `p`, half `j`, raises on the sender. -/
def sdS (δ : Bool) (p j : Fin 2) : DmaSem sig :=
  (((sdA δ).slice (Rect.unit (s := S2x2) ![p.val, j.val] S1x1.size (semInb p j))).squeeze S_ squeezes_S1x1_S_).sem
/-- The semaphore that a send into slot `p`, half `j`, raises on the receiver. -/
def rvS (δ : Bool) (p j : Fin 2) : DmaSem sig :=
  (((rvA δ).slice (Rect.unit (s := S2x2) ![p.val, j.val] S1x1.size (semInb p j))).squeeze S_ squeezes_S1x1_S_).sem
/-- The semaphore by which a receiver frees its slot `p` to the sender. -/
def crS (δ : Bool) (p : Fin 2) : Sem sig :=
  (((crA δ).slice (Rect.unit (s := S2) ![p.val] S1.size (semInb₁ p))).squeeze S_ squeezes_S1_S_).sem
/-- The barrier semaphore. -/
def barS : Sem sig := (SemArray.scalar (sig.barrier 0 rfl) : Sems sig S_).sem

/-! ## The payloads -/

/-- The product of a block of `x` with the device's `w`. -/
def mmP (x : Vec F S256x512 .bf16) (w : Vec F S512x8192 .bf16) : FVec F S256x8192 .f32 := k0_pay5 (k0_pay4 x) w

/-- The rounded sum of a received half `v` and half `j` of a product. -/
def accP : Fin 2 → FVec F S256x8192 .f32 → Vec F S1x128x8192 .bf16 → FVec F S1x128x8192 .bf16
  | 0 => k0_pay7
  | 1 => k0_pay9

/-- The unrounded sum of a received half `v` and half `j` of a product. -/
def outP : Fin 2 → FVec F S256x8192 .f32 → Vec F S1x128x8192 .bf16 → FVec F S128x8192 .f32
  | 0 => k0_pay47
  | 1 => k0_pay49

/-! ## The offsets -/

/-- The block of `x` whose product direction `δ` starts from. -/
def offI : Bool → Dev nD → Fin 2 → Nat
  | true => k0_off1
  | false => k0_off2
/-- The first product's block lies in `x`. -/
theorem offI_inb (δ : Bool) (d : Dev nD) : ∀ a, (offI δ d) a + S256x512.size a ≤ S4096x512.size a := by
  cases δ
  · exact k0_off2_inb d
  · exact k0_off1_inb d

/-- The block of `x` whose product direction `δ` computes at step `s`. -/
def offS : Bool → Dev nD → Fin 7 → Fin 2 → Nat
  | true, d, s => k0_off3 d (BitVec.ofNat 32 s.val)
  | false, d, s => k0_off4 d (BitVec.ofNat 32 s.val)
/-- Step `s`'s block lies in `x`. -/
theorem offS_inb (δ : Bool) (d : Dev nD) (s : Fin 7) : ∀ a, (offS δ d s) a + S256x512.size a ≤ S4096x512.size a := by
  cases δ
  · exact k0_off4_inb d s
  · exact k0_off3_inb d s

/-- The half `j` of the result's rows of direction `δ`. -/
def rowO (δ : Bool) (j : Fin 2) : Nat := (match δ with | true => 0 | false => 256) + 128 * j.val
/-- Those rows lie in the result. -/
theorem rowO_inb (δ : Bool) (j : Fin 2) : ∀ a, (![rowO δ j, 0] : Fin 2 → Nat) a + S128x8192.size a ≤ S512x8192.size a := by
  revert δ j; decide
/-- The rows themselves, all columns. -/
abbrev outR (δ : Bool) (j : Fin 2) : Rect S512x8192 := Rect.unit (s := S512x8192) ![rowO δ j, 0] S128x8192.size (rowO_inb δ j)

/-! ## The pieces of the program -/

variable (d : Dev nD)

/-- Load 256 rows of `x` at an offset. -/
def loadX (o : Fin 2 → Nat) (h : ∀ a, o a + S256x512.size a ≤ S4096x512.size a) : Prog (TpuEff nD τ sig (Elt F) Λ₀ .tc) (Vec F S256x512 .bf16) :=
  Prog.lift (.load xM (Rect.unit (s := S4096x512) o S256x512.size h).toLoadRect (View.loadsAt_vmem h_S256x512))

/-- Load `w`. -/
def loadW : Prog (TpuEff nD τ sig (Elt F) Λ₀ .tc) (Vec F S512x8192 .bf16) :=
  Prog.lift (.load wM (Rect.unit (s := S512x8192) ![0, 0] S512x8192.size inb_S512x8192_S512x8192_0_0).toLoadRect (View.loadsAt_vmem h_S512x8192))

/-- The first product of direction `δ`, stored whole into slot 0. -/
def iniP (δ : Bool) : Prog (TpuEff nD τ sig (Elt F) Λ₀ .tc) PUnit := do
  let x ← loadX (offI δ d) (offI_inb δ d)
  let w ← loadW
  let _ : Vec F S1x256x8192 .bf16 ← Prog.lift (.load (commM δ) (Rect.unit (s := S2x256x8192) ![0, 0, 0] S1x256x8192.size inb_S2x256x8192_S1x256x8192_0_0_0).toLoadRect (View.loadsAt_vmem h_S1x256x8192))
  Prog.lift (.store (commM δ) (Rect.unit (s := S2x256x8192) ![0, 0, 0] S1x256x8192.size inb_S2x256x8192_S1x256x8192_0_0_0) (k0_pay1 x w) Finset.univ (View.stores_vmem h_S1x256x8192 ((commW δ).storeExact_slice rfl _ packedbf16_S2x256x8192_S1x256x8192_0_0_0) (fun _ => rfl)) (.inl rfl))

/-- Step `s` sends half `j` of its slot in direction `δ`. -/
def sendP (s : ℕ) (δ : Bool) (j : Fin 2) : Prog (TpuEff nD τ sig (Elt F) Λ₀ .tc) PUnit :=
  Prog.lift (.enqueueDma (subM δ (sl s) j) (.remote (Dev.tc (toD δ d)) (subM δ (sl (s + 1)) j) (.dma (sdS δ (sl s) j))) (.dma (rvS δ (sl (s + 1)) j))
    (subWE δ (sl s) j) (subWE δ (sl (s + 1)) j) ⟨⟨rfl, Or.inl rfl⟩, trivial⟩)

/-- Step `s` waits for its send of half `j` in direction `δ`. -/
def sentP (s : ℕ) (δ : Bool) (j : Fin 2) : Prog (TpuEff nD τ sig (Elt F) Λ₀ .tc) PUnit :=
  Prog.lift (.waitDma2 (sdS δ (sl s) j) (subM δ (sl (s + 1)) j) (subM δ (sl s) j) (subWE δ (sl (s + 1)) j) (subWE δ (sl s) j))

/-- Wait for the data that arrive in half `j` of the slot step `s` sends from. -/
def recvP (s : ℕ) (δ : Bool) (j : Fin 2) : Prog (TpuEff nD τ sig (Elt F) Λ₀ .tc) PUnit :=
  Prog.lift (.waitDma2 (rvS δ (sl s) j) (subM δ (sl s) j) (subM δ (sl s) j) (subWE δ (sl s) j) (subWE δ (sl s) j))

/-- Load half `j` of slot `p`. -/
def loadSub (p : Fin 2) (δ : Bool) (j : Fin 2) : Prog (TpuEff nD τ sig (Elt F) Λ₀ .tc) (Vec F S1x128x8192 .bf16) :=
  Prog.lift (.load (commM δ) (subR p j).toLoadRect (View.loadsAt_vmem h_S1x128x8192))

/-- Receive, then add this device's product to what was received. -/
def addP (s : ℕ) (δ : Bool) (j : Fin 2) (P : FVec F S256x8192 .f32) : Prog (TpuEff nD τ sig (Elt F) Λ₀ .tc) PUnit := do
  recvP s δ j
  let v ← loadSub (sl s) δ j
  let _ : Vec F S1x128x8192 .bf16 ← loadSub (sl s) δ j
  Prog.lift (.store (commM δ) (subR (sl s) j) (accP j P v) Finset.univ (View.stores_vmem h_S1x128x8192 ((commW δ).storeExact_slice rfl _ (subPacked (sl s) j)) (fun _ => rfl)) (.inl rfl))

/-- Receive, then write the sum with this device's product to the result. -/
def finP (s : ℕ) (δ : Bool) (j : Fin 2) (P : FVec F S256x8192 .f32) : Prog (TpuEff nD τ sig (Elt F) Λ₀ .tc) PUnit := do
  recvP s δ j
  let v ← loadSub (sl s) δ j
  let _ : Vec F S128x8192 .f32 ← Prog.lift (.load oM (outR δ j).toLoadRect (View.loadsAt_vmem h_S128x8192))
  Prog.lift (.store oM (outR δ j) (outP j P v) Finset.univ (View.stores_vmem_bits_univ h_S128x8192 rfl) (.inl rfl))

/-- The product of direction `δ` at step `s`. -/
def mulP (s : Fin 7) (δ : Bool) : Prog (TpuEff nD τ sig (Elt F) Λ₀ .tc) (FVec F S256x8192 .f32) := do
  let x ← loadX (offS δ d s) (offS_inb δ d s)
  let w ← loadW
  pure (mmP x w)

/-- The part of step `s` after its sends: both products, then the waits for the sends. -/
def tailP (s : Fin 7) : Prog (TpuEff nD τ sig (Elt F) Λ₀ .tc) (FVec F S256x8192 .f32 × FVec F S256x8192 .f32) := do
  let P ← mulP d s true
  let Q ← mulP d s false
  sentP s.val true 0
  sentP s.val false 0
  sentP s.val true 1
  sentP s.val false 1
  pure (P, Q)

/-- The entry: the barrier with both neighbours, then the first products. -/
def entryP : Prog (TpuEff nD τ sig (Elt F) Λ₀ .tc) PUnit := do
  semSignalWord (toD false d) barS 1#32
  semSignalWord (toD true d) barS 1#32
  semWaitWord barS 2#32
  iniP d true
  iniP d false

/-- Step 0's sends. -/
def firstP : Prog (TpuEff nD τ sig (Elt F) Λ₀ .tc) PUnit := do
  sendP d 0 true 0
  sendP d 0 false 0
  sendP d 0 true 1
  sendP d 0 false 1

/-- Free slot `s % 2` to both senders. -/
def freeP (s : ℕ) : Prog (TpuEff nD τ sig (Elt F) Λ₀ .tc) PUnit := do
  semSignalWord (toD false d) (crS true (sl s)) 1#32
  semSignalWord (toD true d) (crS false (sl s)) 1#32

/-- Half `j` of step `s`: receive and add in both directions, then send in both. -/
def halfP (s : ℕ) (j : Fin 2) (PQ : FVec F S256x8192 .f32 × FVec F S256x8192 .f32) : Prog (TpuEff nD τ sig (Elt F) Λ₀ .tc) PUnit := do
  addP s true j PQ.1
  addP s false j PQ.2
  sendP d s true j
  sendP d s false j

/-- The part of step `s + 1` up to its sends. -/
def headP (s : ℕ) (PQ : FVec F S256x8192 .f32 × FVec F S256x8192 .f32) : Prog (TpuEff nD τ sig (Elt F) Λ₀ .tc) PUnit := do
  semWaitWord (crS true (sl s)) 1#32
  semWaitWord (crS false (sl s)) 1#32
  halfP d (s + 1) 0 PQ
  halfP d (s + 1) 1 PQ

/-- Step `s + 1` with the freeing of its slot. -/
def stepP (s : Fin 6) (PQ : FVec F S256x8192 .f32 × FVec F S256x8192 .f32) : Prog (TpuEff nD τ sig (Elt F) Λ₀ .tc) (FVec F S256x8192 .f32 × FVec F S256x8192 .f32) := do
  headP d s.val PQ
  let PQ' ← tailP d s.succ
  freeP d (s.val + 1)
  pure PQ'

/-- The last receives and the result. -/
def exitP (PQ : FVec F S256x8192 .f32 × FVec F S256x8192 .f32) : Prog (TpuEff nD τ sig (Elt F) Λ₀ .tc) PUnit := do
  finP 7 true 0 PQ.1
  finP 7 false 0 PQ.2
  finP 7 true 1 PQ.1
  finP 7 false 1 PQ.2
  pure ⟨⟩

/-- The whole body. -/
def bodyP : Prog (TpuEff nD τ sig (Elt F) Λ₀ .tc) PUnit := do
  let d ← Prog.lift .deviceId
  entryP d
  firstP d
  let PQ ← tailP d 0
  freeP d 0
  let PQ ← stepP d 0 PQ
  let PQ ← stepP d 1 PQ
  let PQ ← stepP d 2 PQ
  let PQ ← stepP d 3 PQ
  let PQ ← stepP d 4 PQ
  headP d 5 PQ
  let PQ ← tailP d 6
  exitP PQ

set_option maxRecDepth 65536 in
/-- The printed body is the generic one. -/
theorem body_eq : cc0_body (F := F) xM (hstage0_0 0) wM (hstage0_1 0) oM (hstage0_2 0) (Memref.whole cc0_scratch0) (Memref.isWhole_whole _)
    (Memref.whole cc0_scratch1) (Memref.isWhole_whole _) cc0_scratch2 cc0_scratch3 cc0_scratch4 cc0_scratch5 cc0_scratch6 cc0_scratch7 = bodyP := by
  chain_rfl

end Cert.KernelIdeal.RingPf
-- ==== Proof.Ideal.Cells.lean ====
/-
# The ring's cells, contents and schedule

Each device has twenty-one semaphore cells besides the staging ones: the barrier, and per direction two credit cells
(one per slot), four send cells and four receive cells (one per slot and row half). This module names them, says what
the communication buffers hold after every step, and states the schedule: which duties a cell has in which round, how
many units each contributes and what it hands over.
-/
module

public import proofs.«01_k».proof.Proof.Ideal.Prog
public import Idealize.ShloMosaic.Lib.Pipeline.ValueKit.Geometry

@[expose] public section

noncomputable section

namespace Cert.KernelIdeal.RingPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The ghost state of the ring's rounds. -/
abbrev UB : Type := URounds (GSem nD τ sig) Bool
/-- The ghost state of the pipeline's rounds and of the ring's. -/
abbrev UU : Type := UR sig nD τ × UB

local notation "𝕄" => MT nD τ sig ℕ (Elt F) ℕ UU ℕ

/-- The pipeline's part of it. -/
abbrev EP : Emb (UR sig nD τ) (MT nD τ sig ℕ (Elt F) ℕ UU ℕ) := embL
/-- The ring's part of it. -/
abbrev ER : Emb UB (MT nD τ sig ℕ (Elt F) ℕ UU ℕ) := embR

/-! ## Cells -/

/-- A device's cells: the barrier; a direction's credit cell of a slot; its send and receive cells of a slot's half. -/
inductive Kd where
  | bar
  | cr (δ : Bool) (p : Fin 2)
  | sd (δ : Bool) (p j : Fin 2)
  | rv (δ : Bool) (p j : Fin 2)
  deriving DecidableEq

/-- The cells, listed. -/
def Kd.all : List Kd :=
  [.bar, .cr true 0, .cr true 1, .cr false 0, .cr false 1,
    .sd true 0 0, .sd true 0 1, .sd true 1 0, .sd true 1 1, .sd false 0 0, .sd false 0 1, .sd false 1 0, .sd false 1 1,
    .rv true 0 0, .rv true 0 1, .rv true 1 0, .rv true 1 1, .rv false 0 0, .rv false 0 1, .rv false 1 0, .rv false 1 1]

/-- The list has every cell. -/
theorem Kd.mem_all (k : Kd) : k ∈ Kd.all := by
  cases k with
  | bar => decide
  | cr δ p => revert δ p; decide
  | sd δ p j => revert δ p j; decide
  | rv δ p j => revert δ p j; decide

instance : Fintype Kd := ⟨⟨↑Kd.all, by decide⟩, Kd.mem_all⟩

/-- A cell's semaphore. -/
def semOf : Kd → SemLoc sig
  | .bar => .reg barS
  | .cr δ p => .reg (crS δ p)
  | .sd δ p j => .dma (sdS δ p j)
  | .rv δ p j => .dma (rvS δ p j)

set_option maxRecDepth 20000 in
/-- Different cells have different semaphores. -/
theorem semOf_injective : Function.Injective semOf := by
  have h : ∀ a ∈ Kd.all, ∀ b ∈ Kd.all, semOf a = semOf b → a = b := by decide +kernel
  exact fun a b => h a (Kd.mem_all a) b (Kd.mem_all b)

/-- The cell of a semaphore. -/
def kindOf : SemLoc sig → Option Kd := Function.partialInv semOf
/-- The cell of a cell's semaphore is that cell. -/
theorem kindOf_semOf (k : Kd) : kindOf (semOf k) = some k := Function.partialInv_left semOf_injective k

/-- Cell `k` of device `c`. -/
abbrev cell (c : Dev nD) (k : Kd) : GSem nD τ sig := ((c : Thread nD τ), semOf k)

/-- What a transfer of one row half credits. -/
abbrev N : ℕ := (subM true 0 0).view.dmaCredit
/-- A transfer credits something. -/
theorem N_pos : 0 < N := View.dmaCredit_pos _ (by decide)
/-- Every half of every slot has the same credit. -/
theorem subCredit (δ : Bool) (p j : Fin 2) : (subM δ p j).view.dmaCredit = N := by cases δ <;> rfl

/-! ## Sub-blocks of a communication buffer -/

/-- The elements of half `j` of slot `p`. -/
abbrev subSet (δ : Bool) (p j : Fin 2) := ((commM δ).access (subR p j)).set

/-- The memref of a half covers the half's elements. -/
theorem subM_set (δ : Bool) (p j : Fin 2) : (subM δ p j).view.set = subSet δ p j := View.set_reshape _ _

/-- The slot whole. -/
abbrev slotR : Rect S2x256x8192 := Rect.unit (s := S2x256x8192) ![0, 0, 0] S1x256x8192.size inb_S2x256x8192_S1x256x8192_0_0_0

/-- Half `j` lies in a block of 256 rows. -/
theorem halfInb (j : Fin 2) : ∀ a, (![0, 128 * j.val, 0] : Fin 3 → Nat) a + S1x128x8192.size a ≤ S1x256x8192.size a := by
  revert j; decide
/-- Half `j` of a block of 256 rows. -/
def half (j : Fin 2) (v : FVec F S1x256x8192 .bf16) : Vec F S1x128x8192 .bf16 :=
  fun i => v ((Rect.unit (s := S1x256x8192) ![0, 128 * j.val, 0] S1x128x8192.size (halfInb j)).emb i)

omit [FloatOps F] in
/-- Reading a half of slot 0 after the whole slot was stored. -/
theorem read_half (δ : Bool) (j : Fin 2) (f : (commM δ).view.ty.Contents (Elt F)) (v : FVec F S1x256x8192 .bf16) :
    (commM δ).view.readAt (Elt F) (subR 0 j).toLoadRect (((commM δ).access slotR).write (Elt F) f v Finset.univ) = half j v := by
  funext i
  have e : (subR 0 j).emb i = slotR.emb ((Rect.unit (s := S1x256x8192) ![0, 128 * j.val, 0] S1x128x8192.size (halfInb j)).emb i) := by
    funext a
    refine Fin.ext ?_
    rw [ValueKit.rect_emb_unit_val, ValueKit.rect_emb_unit_val, ValueKit.rect_emb_unit_val]
    fin_cases a <;> simp
  have h := congrFun (View.read_write_univ (v := (commM δ).access slotR) (Val := Elt F) f v) ((Rect.unit (s := S1x256x8192) ![0, 128 * j.val, 0] S1x128x8192.size (halfInb j)).emb i)
  refine Eq.trans ?_ h
  rw [View.readAt_rect]
  show (commM δ).view.read (Elt F) _ ((subR 0 j).emb i) = (commM δ).view.read (Elt F) _ (slotR.emb _)
  rw [e]

omit [FloatOps F] in
/-- Reading a half after storing it. -/
theorem read_sub (δ : Bool) (p j : Fin 2) (f : (commM δ).view.ty.Contents (Elt F)) (v : Vec F S1x128x8192 .bf16) :
    (commM δ).view.readAt (Elt F) (subR p j).toLoadRect (((commM δ).access (subR p j)).write (Elt F) f v Finset.univ) = v :=
  View.read_write_univ (v := (commM δ).access (subR p j)) (Val := Elt F) f v

omit [FloatOps F] in
/-- What a transfer of a half leaves at its target reads as what was sent. -/
theorem read_sent (δ : Bool) (p p' j : Fin 2) (fd fs : (commM δ).view.ty.Contents (Elt F)) :
    (commM δ).view.readAt (Elt F) (subR p' j).toLoadRect ((subM δ p' j).view.write (Elt F) fd ((subM δ p j).view.read (Elt F) fs) Finset.univ)
      = (commM δ).view.readAt (Elt F) (subR p j).toLoadRect fs := by
  have h := View.read_write_univ (v := (subM δ p' j).view) (Val := Elt F) fd ((subM δ p j).view.read (Elt F) fs)
  funext i
  have h' := congrFun h ((Shape.reshapeEquiv squeezes_S1x128x8192_S128x8192.numel_eq).symm i)
  have e : ∀ (q : Fin 2) (g : (commM δ).view.ty.Contents (Elt F)), (subM δ q j).view.read (Elt F) g ((Shape.reshapeEquiv squeezes_S1x128x8192_S128x8192.numel_eq).symm i)
      = (commM δ).view.readAt (Elt F) (subR q j).toLoadRect g i := by
    intro q g
    show (commM δ).view.readAt (Elt F) (subR q j).toLoadRect g (Shape.reshapeEquiv squeezes_S1x128x8192_S128x8192.numel_eq _) = _
    rw [Equiv.apply_symm_apply]
  rw [e] at h'
  exact (e p' _).symm.trans h'

/-- Half `j` of slot `p` of device `c`'s buffer of direction `δ`, held whole, reading `X`. -/
def subAt (c : Dev nD) (δ : Bool) (p j : Fin 2) (X : Vec F S1x128x8192 .bf16) : sProp 𝕄 :=
  iprop(∃ f : Buf (Elt F) ((commM δ).view.loc (c : Thread nD τ)), ⌜(commM δ).view.readAt (Elt F) (subR p j).toLoadRect f = X⌝
    ∗ ((commM δ).view.loc (c : Thread nD τ) ↦[subSet δ p j]{fullShare} f))
/-- The same at any contents. -/
def subAny (c : Dev nD) (δ : Bool) (p j : Fin 2) : sProp 𝕄 :=
  iprop(∃ f : Buf (Elt F) ((commM δ).view.loc (c : Thread nD τ)), ((commM δ).view.loc (c : Thread nD τ) ↦[subSet δ p j]{fullShare} f))

omit [FloatOps F] in
/-- Known contents may be forgotten. -/
theorem subAt_any (c : Dev nD) (δ : Bool) (p j : Fin 2) (X : Vec F S1x128x8192 .bf16) : subAt c δ p j X ⊢ subAny c δ p j := by
  unfold subAt subAny
  iintro ⟨%f, -, H⟩
  iexists f; iexact H

omit [FloatOps F] in
instance subAt_storable (c : Dev nD) (δ : Bool) (p j : Fin 2) (X : Vec F S1x128x8192 .bf16) : BI.Storable (upEmb : UEmb _ 𝕄) (subAt c δ p j X) := by
  unfold subAt; infer_instance
omit [FloatOps F] in
instance subAny_storable (c : Dev nD) (δ : Bool) (p j : Fin 2) : BI.Storable (upEmb : UEmb _ 𝕄) (subAny c δ p j) := by
  unfold subAny; infer_instance

/-! ## Contents -/

variable (m : (ℓ : Loc nD τ sig) → Buf (Elt F) ℓ)

/-- Device `c`'s block of `x` as staged. -/
def xS (c : Dev nD) : (cc0_stg0_0 : Ref sig .tc).ty.Contents (Elt F) :=
  (win0_0.blk (0 : Fin 1)).view.read (Elt F) (m ((c : Thread nD τ).loc main_arg0))
/-- Device `c`'s block of `w` as staged. -/
def wS (c : Dev nD) : (cc0_stg1_0 : Ref sig .tc).ty.Contents (Elt F) :=
  (win0_1.blk (0 : Fin 1)).view.read (Elt F) (m ((c : Thread nD τ).loc main_arg1))

/-- The 256 rows of device `c`'s block of `x` at an offset. -/
def xAt (c : Dev nD) (o : Fin 2 → Nat) (h : ∀ a, o a + S256x512.size a ≤ S4096x512.size a) : Vec F S256x512 .bf16 :=
  xM.view.readAt (Elt F) (Rect.unit (s := S4096x512) o S256x512.size h).toLoadRect (xS m c)

/-- The first product of direction `δ`, rounded. -/
def prodI (δ : Bool) (c : Dev nD) : FVec F S1x256x8192 .bf16 := k0_pay1 (xAt m c (offI δ c) (offI_inb δ c)) (wS m c)
/-- The product of direction `δ` at step `s`. -/
def prodS (δ : Bool) (s : ℕ) (c : Dev nD) : FVec F S256x8192 .f32 :=
  mmP (xAt m c (offS δ c (Fin.ofNat 7 s)) (offS_inb δ c (Fin.ofNat 7 s))) (wS m c)

/-- What device `c` sends at step `s` in direction `δ`, half `j`: at first its first product, then what it received
    with its own product of the step before added. -/
def sentV (δ : Bool) (j : Fin 2) : ℕ → Dev nD → Vec F S1x128x8192 .bf16
  | 0, c => half j (prodI m δ c)
  | s + 1, c => accP j (prodS m δ s c) (sentV δ j s (fr δ c))

/-! ## The schedule -/

/-- The duties of a cell in a round. Slot `p`'s send and credit cells serve step `2 * r + p` in round `r`, its receive cells the
    step that fills it, `2 * r + (1 - p)`. -/
def kDuties : Kd → ℕ → Finset Bool
  | .bar, r => if r = 0 then Finset.univ else ∅
  | .cr _ p, r => if 2 * r + p.val < 6 then {false} else ∅
  | .sd _ p _, r => if 2 * r + p.val < 7 then {false} else ∅
  | .rv _ p _, r => if 2 * r + (1 - p.val) < 7 then {false} else ∅

/-- The units of one duty. -/
def kAmount : Kd → ℕ
  | .bar => 1
  | .cr _ _ => 1
  | .sd _ _ _ => N
  | .rv _ _ _ => N

/-- What the duties of device `c`'s cells hand over. The barrier: a neighbour's slot 1. A credit: the neighbour's freed
    slot and how far it is with receiving into it. A send: the half sent. A receive: the half as sent by the
    neighbour, and how far that is with its credits. -/
def kPay (c : Dev nD) : Kd → ℕ → Bool → sProp 𝕄
  | .bar, _, δ => iprop(subAny (tg δ c) δ 1 0 ∗ subAny (tg δ c) δ 1 1)
  | .cr δ p, r, _ => iprop(subAny (tg δ c) δ p 0 ∗ subAny (tg δ c) δ p 1
      ∗ reached ER (cell (tg δ c) (.rv δ p 0)) ((2 * r + p.val + 1) / 2) ∗ reached ER (cell (tg δ c) (.rv δ p 1)) ((2 * r + p.val + 1) / 2))
  | .sd δ p j, _, _ => subAny c δ p j
  | .rv δ p j, r, _ => iprop(subAt c δ p j (sentV m δ j (2 * r + (1 - p.val)) (fr δ c))
      ∗ reached ER (cell (fr δ c) (.cr δ p)) ((2 * r + (1 - p.val) + 1) / 2))

/-- The schedule of all cells. -/
def ringRd : Rounds.Schedule (GSem nD τ sig) Bool 𝕄 where
  duties g r := if g.1.2 = .tc then (match kindOf g.2 with | some k => kDuties k r | none => ∅) else ∅
  unitless _ := False
  amount g _ _ := match kindOf g.2 with | some k => kAmount k | none => 1
  payload g r d := match kindOf g.2 with | some k => kPay m g.1.1 k r d | none => iprop(emp)
  amount_pos g _ _ _ := by
    cases h : kindOf g.2 with
    | none => exact Nat.one_pos
    | some k => cases k <;> first | exact Nat.one_pos | exact N_pos

instance kPay_storable (c : Dev nD) (k : Kd) (r : ℕ) (d : Bool) : BI.Storable (upEmb : UEmb _ 𝕄) (kPay m c k r d) := by
  cases k <;> unfold kPay <;> infer_instance

instance ringRd_payload_storable (g : GSem nD τ sig) (r : ℕ) (d : Bool) :
    BI.Storable (upEmb : UEmb _ 𝕄) ((ringRd (F := F) m).payload g r d) := by
  show BI.Storable upEmb (match kindOf g.2 with | some k => kPay m g.1.1 k r d | none => iprop(emp))
  split <;> infer_instance

section Sched
variable (c : Dev nD) (k : Kd)

/-- The schedule's duties at cell `k` of a device. -/
theorem duties_cell (r : ℕ) : (ringRd m).duties (cell c k) r = kDuties k r := by
  dsimp only [ringRd]; rw [if_pos rfl, kindOf_semOf]
/-- The schedule's amount at cell `k` of a device. -/
theorem amount_cell (r : ℕ) (d : Bool) : (ringRd m).amount (cell c k) r d = kAmount k := by
  dsimp only [ringRd]; rw [kindOf_semOf]
/-- The schedule's payload at cell `k` of a device. -/
theorem payload_cell (r : ℕ) (d : Bool) : (ringRd m).payload (cell c k) r d = kPay m c k r d := by
  dsimp only [ringRd]; rw [kindOf_semOf]

/-- A round with the one duty `false` expects that duty's units. -/
theorem expect_one {r : ℕ} (h : kDuties k r = {false}) : (ringRd m).expect (cell c k) r = kAmount k := by
  unfold Schedule.expect Schedule.amountOf; rw [duties_cell, h, Finset.sum_singleton, amount_cell]
/-- A round with the one duty `false` hands over that duty's payload. -/
theorem rest_one {r : ℕ} (h : kDuties k r = {false}) :
    bigSep ((ringRd m).duties (cell c k) r \ ∅) (fun d => (ringRd m).payload (cell c k) r d) = kPay m c k r false := by
  rw [Finset.sdiff_empty, duties_cell, h, bigSep_singleton, payload_cell]

/-- The barrier expects two units. -/
theorem expect_bar : (ringRd m).expect (cell c .bar) 0 = 2 := by
  unfold Schedule.expect Schedule.amountOf
  rw [duties_cell, Finset.sum_congr rfl fun d _ => amount_cell m c .bar 0 d]
  rfl
/-- The barrier hands over what both neighbours pay. -/
theorem rest_bar : bigSep ((ringRd m).duties (cell c .bar) 0 \ ∅) (fun d => (ringRd m).payload (cell c .bar) 0 d)
    = iprop(kPay m c .bar 0 true ∗ kPay m c .bar 0 false) := by
  rw [Finset.sdiff_empty, duties_cell, show kDuties .bar 0 = Finset.univ from rfl,
    bigSep_univ_eq_bigSepL [true, false] (by decide) (by decide), bigSepL_cons_cons, bigSepL_singleton, payload_cell, payload_cell]
  rfl
end Sched

/-- Step `s`'s credit is the one duty of its round. -/
theorem duties_cr {δ : Bool} {s : ℕ} (h : s < 6) : kDuties (.cr δ (sl s)) (s / 2) = {false} := by
  exact if_pos (show _ by dsimp only [sl]; omega)
/-- Step `s`'s send is the one duty of its round. -/
theorem duties_sd {δ : Bool} {j : Fin 2} {s : ℕ} (h : s < 7) : kDuties (.sd δ (sl s) j) (s / 2) = {false} := by
  exact if_pos (show _ by dsimp only [sl]; omega)
/-- Step `s`'s arrival is the one duty of its round. -/
theorem duties_rv {δ : Bool} {j : Fin 2} {s : ℕ} (h : s < 7) : kDuties (.rv δ (sl (s + 1)) j) (s / 2) = {false} := by
  exact if_pos (show _ by dsimp only [sl]; omega)

/-- The payload of step `s`'s credit. -/
theorem pay_cr (c : Dev nD) (δ : Bool) (s : ℕ) : kPay m c (.cr δ (sl s)) (s / 2) false
    = iprop(subAny (tg δ c) δ (sl s) 0 ∗ subAny (tg δ c) δ (sl s) 1
      ∗ reached ER (cell (tg δ c) (.rv δ (sl s) 0)) ((s + 1) / 2) ∗ reached ER (cell (tg δ c) (.rv δ (sl s) 1)) ((s + 1) / 2)) := by
  have h : 2 * (s / 2) + s % 2 = s := by omega
  simp only [kPay, sl, h]
/-- The payload of step `s`'s send. -/
theorem pay_sd (c : Dev nD) (δ : Bool) (s : ℕ) (j : Fin 2) : kPay m c (.sd δ (sl s) j) (s / 2) false = subAny c δ (sl s) j := rfl
/-- The payload of what arrives of step `s`. -/
theorem pay_rv (c : Dev nD) (δ : Bool) (s : ℕ) (j : Fin 2) : kPay m c (.rv δ (sl (s + 1)) j) (s / 2) false
    = iprop(subAt c δ (sl (s + 1)) j (sentV m δ j s (fr δ c)) ∗ reached ER (cell (fr δ c) (.cr δ (sl (s + 1)))) ((s + 1) / 2)) := by
  have h : 2 * (s / 2) + (1 - (s + 1) % 2) = s := by omega
  simp only [kPay, sl, h]

end Cert.KernelIdeal.RingPf
-- ==== Proof.Ideal.Owed.lean ====
/-
# What a device owes, and the levels

A device owes its neighbours the units of its transfers and of its credits, step after step, and one barrier unit each at
the entry. Units are indexed by a level: 0 for what is never owed, 1 for the barrier, `s + 2` for what step `s` pays. A wait
at a level is allowed while all that is owed lies above.
-/
module

public import proofs.«01_k».proof.Proof.Ideal.Cells
public import Mathlib.Algebra.BigOperators.Intervals
public import Mathlib.Tactic.Abel

@[expose] public section

noncomputable section

namespace Cert.KernelIdeal.RingPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The indices of a cell's units. -/
def L (g : GSem nD τ sig) : Finset ℕ := if g.1.2 = .tc then Finset.range 20 else ∅
/-- An index is its level. -/
def lv (_ : GSem nD τ sig) (u : ℕ) : ℕ := u

/-- Only the cells of a device's core have units. -/
theorem L_of_ne (g : GSem nD τ sig) (h : g.1.2 ≠ .tc) : L g = ∅ := if_neg h
/-- A cell of a device's core has twenty indices. -/
theorem L_tc (c : Dev nD) (sm : SemLoc sig) : L ((c : Thread nD τ), sm) = Finset.range 20 := if_pos rfl

/-- Step `s`'s transfer of half `j` in direction `δ`. -/
def oSend (c : Dev nD) (s : ℕ) (δ : Bool) (j : Fin 2) : CellTallies nD τ sig ℕ := tallyAt (cell (tg δ c) (.rv δ (sl (s + 1)) j)) (s + 2) N
/-- The credit for the slot that step `s` sent from. -/
def oCr (c : Dev nD) (s : ℕ) (δ : Bool) : CellTallies nD τ sig ℕ := tallyAt (cell (fr δ c) (.cr δ (sl s))) (s + 2) 1
/-- Step `s`'s credits; the last step pays none. -/
def oCred (c : Dev nD) (s : ℕ) : CellTallies nD τ sig ℕ := if s < 6 then oCr c s false + oCr c s true else 0
/-- All that step `s` pays. -/
def oStep (c : Dev nD) (s : ℕ) : CellTallies nD τ sig ℕ :=
  oCred c s + oSend c s false 1 + oSend c s true 1 + oSend c s false 0 + oSend c s true 0
/-- All that the steps from `s` on pay. -/
def oRest (c : Dev nD) (s : ℕ) : CellTallies nD τ sig ℕ := ∑ s' ∈ Finset.Ico s 7, oStep c s'
/-- What is owed after step `s`'s sends. -/
def oTail (c : Dev nD) (s : ℕ) : CellTallies nD τ sig ℕ := oRest c (s + 1) + oCred c s
/-- The barrier unit that goes to the neighbour in direction `δ`. -/
def oBar (c : Dev nD) (δ : Bool) : CellTallies nD τ sig ℕ := tallyAt (cell (tg δ c) .bar) 1 1
/-- What is owed at the start, one barrier unit to each neighbour paid first. -/
def O₀ (c : Dev nD) : CellTallies nD τ sig ℕ := oRest c 0 + oBar c true + oBar c false

/-- What is owed before step `s` is its four sends and what is owed after them. -/
theorem oRest_peel (c : Dev nD) {s : ℕ} (h : s < 7) :
    oRest c s = oTail c s + oSend c s false 1 + oSend c s true 1 + oSend c s false 0 + oSend c s true 0 := by
  unfold oRest oTail
  rw [Finset.sum_eq_sum_Ico_succ_bot h]
  unfold oStep oRest
  abel
/-- What is owed after step `s`'s sends is its two credits and what is owed before the next step. -/
theorem oTail_peel (c : Dev nD) {s : ℕ} (h : s < 6) : oTail c s = oRest c (s + 1) + oCr c s false + oCr c s true := by
  unfold oTail oCred
  rw [if_pos h, add_assoc]
/-- After the last step's sends nothing is owed. -/
theorem oTail_last (c : Dev nD) : oTail c 6 = 0 := by
  unfold oTail oCred oRest
  rw [if_neg (by decide), Finset.Ico_self, Finset.sum_empty, add_zero]

/-- All that is owed lies above `ℓ`. -/
def Above (ℓ : ℕ) (O : CellTallies nD τ sig ℕ) : Prop := ∀ g u, 0 < O g u → u ∈ L g ∧ ℓ < u

/-- Nothing owed lies above everything. -/
theorem above_zero (ℓ : ℕ) : Above ℓ 0 := fun g u h => absurd h (Nat.lt_irrefl 0)
/-- Two debts above `ℓ` are together above `ℓ`. -/
theorem Above.add {ℓ : ℕ} {O O' : CellTallies nD τ sig ℕ} (h : Above ℓ O) (h' : Above ℓ O') : Above ℓ (O + O') := by
  intro g u hu
  rw [Pi.add_apply, Finsupp.add_apply] at hu
  rcases Nat.eq_zero_or_pos (O g u) with h0 | h0
  · exact h' g u (by omega)
  · exact h g u h0
/-- Units of a higher index are above `ℓ`. -/
theorem above_tally {ℓ ι : ℕ} (c : Dev nD) (k : Kd) (n : ℕ) (h : ℓ < ι) (hι : ι < 20) : Above ℓ (tallyAt (cell c k) ι n) := by
  intro g u hu
  rw [tallyAt_apply] at hu
  by_cases e : g = cell c k ∧ u = ι
  · rw [e.1, e.2, L_tc]; exact ⟨Finset.mem_range.mpr hι, h⟩
  · rw [if_neg e] at hu; exact absurd hu (Nat.lt_irrefl 0)
/-- Above `ℓ` is above anything lower. -/
theorem Above.mono {ℓ ℓ' : ℕ} {O : CellTallies nD τ sig ℕ} (h : Above ℓ O) (hl : ℓ' ≤ ℓ) : Above ℓ' O :=
  fun g u hu => ⟨(h g u hu).1, lt_of_le_of_lt hl (h g u hu).2⟩

/-- Step `s`'s transfers lie above everything below `s + 2`. -/
theorem above_send (c : Dev nD) {s ℓ : ℕ} (δ : Bool) (j : Fin 2) (hs : s < 7) (h : ℓ < s + 2) : Above ℓ (oSend c s δ j) :=
  above_tally _ _ _ h (by omega)
/-- So do its credits. -/
theorem above_cred (c : Dev nD) {s ℓ : ℕ} (hs : s < 7) (h : ℓ < s + 2) : Above ℓ (oCred c s) := by
  unfold oCred
  split
  · exact (above_tally _ _ _ h (by omega)).add (above_tally _ _ _ h (by omega))
  · exact above_zero _
/-- So does all that the step pays. -/
theorem above_step (c : Dev nD) {s ℓ : ℕ} (hs : s < 7) (h : ℓ < s + 2) : Above ℓ (oStep c s) :=
  ((((above_cred c hs h).add (above_send c _ _ hs h)).add (above_send c _ _ hs h)).add (above_send c _ _ hs h)).add (above_send c _ _ hs h)
/-- So does all that it and later steps pay. -/
theorem above_rest (c : Dev nD) {s ℓ : ℕ} (h : ℓ < s + 2) : Above ℓ (oRest c s) := by
  unfold oRest
  refine Finset.sum_induction _ (Above ℓ) (fun _ _ h h' => h.add h') (above_zero ℓ) fun s' hs' => ?_
  rw [Finset.mem_Ico] at hs'
  exact above_step c hs'.2 (by omega)
/-- So does what is owed after its sends. -/
theorem above_tail (c : Dev nD) {s ℓ : ℕ} (hs : s < 7) (h : ℓ < s + 2) : Above ℓ (oTail c s) :=
  (above_rest c (by omega)).add (above_cred c hs h)
/-- All that is owed at the start lies above 0. -/
theorem above_O₀ (c : Dev nD) : Above 0 (O₀ c) :=
  ((above_rest c (by omega)).add (above_tally _ _ _ (by decide) (by decide))).add (above_tally _ _ _ (by decide) (by decide))

omit [FloatOps F] in
/-- A wait at a level below all that is owed is allowed. -/
theorem mayWait {ι : ℕ} {O : CellTallies nD τ sig ℕ} (h : Above ι O) (hι : ι < 20) (c : Dev nD) (sm : SemLoc sig) :
    (levAts L lv : sProp 𝕄) ⊢ MayWait (c : Thread nD τ) sm ι O :=
  MayOwe.of_cut (L := L) (lev := lv) ι (fun p hp => by rw [Finset.mem_singleton.mp hp, L_tc]; exact Finset.mem_range.mpr hι)
    (fun g u hg => (h g u hg).1) (fun p hp => by rw [Finset.mem_singleton.mp hp]; exact Nat.le_refl _) (fun g u hg => (h g u hg).2)

end Cert.KernelIdeal.RingPf
-- ==== Proof.Ideal.Pieces.lean ====
/-
# The pieces of the body, one rule each

For every piece of the program - a signal, a wait, a transfer, a product, a receive with its addition - what it needs and
what it leaves.
-/
module

public import proofs.«01_k».proof.Proof.Ideal.Owed

@[expose] public section

noncomputable section

namespace Cert.KernelIdeal.RingPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The launch has no loop variants. -/
abbrev 𝒱₀ : Variants := Variants.none

/-- The weakest precondition of a piece on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Kd → ℕ)

/-- All cells' invariants at the names the launch allocated them at, and the levels. -/
def Inv : sProp 𝕄 :=
  iprop(bigSep Finset.univ (fun i : Dev nD × Kd => cellInv ER (ringRd m) (K i) (cell i.1 i.2)) ∗ levAts L lv)

instance inv_persistent : BI.Persistent (Inv m K) := by unfold Inv; infer_instance

/-- Any one cell's invariant. -/
theorem inv_at (c : Dev nD) (k : Kd) : Inv m K ⊢ cellInv ER (ringRd m) (K (c, k)) (cell c k) := by
  unfold Inv
  iintro ⟨H, -⟩
  have e : (bigSep Finset.univ (fun i : Dev nD × Kd => cellInv ER (ringRd m) (K i) (cell i.1 i.2)) : sProp 𝕄)
      ⊢ cellInv ER (ringRd m) (K (c, k)) (cell c k) := bigSep_elim (Finset.mem_univ (c, k))
  iapply e $$ H
/-- The levels. -/
theorem inv_lev : Inv m K ⊢ levAts L lv := by
  unfold Inv
  iintro ⟨-, H⟩
  iexact H

/-- What device `c` owes, whatever it has waited for. -/
def owing (c : Dev nD) (O : CellTallies nD τ sig ℕ) : sProp 𝕄 := iprop(∃ W : Waits sig ℕ, owes (c : Thread nD τ) O W)

/-- Device `c` stands at round `R` of its cell `k`. -/
def posR (c : Dev nD) (k : Kd) (R : ℕ) : sProp 𝕄 := iprop(atPos ER (cell c k) R ∅ 0 ∗ reached ER (cell c k) R)

omit [FloatOps F] in
/-- A position shows how far the cell has come. -/
theorem posR_reached (c : Dev nD) (k : Kd) (R : ℕ) : (posR c k R : sProp 𝕄) ⊢ iprop(posR c k R ∗ reached ER (cell c k) R) := by
  unfold posR
  iintro ⟨H, #Hr⟩
  isplitl
  · isplitl
    · iexact H
    · iexact Hr
  · iexact Hr

/-- A wait for the one duty of a round. -/
theorem wp_waitOne (c : Dev nD) (k : Kd) (r ι : ℕ) (O : CellTallies nD τ sig ℕ) {w : TpuEff nD τ sig (Elt F) Λ₀ .tc PUnit} {n : ℕ}
    (hn : kAmount k = n)
    (hw : ∀ K' : PUnit → sProp 𝕄, wpE (defs₀ (F := F)) 𝒱₀ (c : Thread nD τ) none Set.univ w K' = waitSpec (c : Thread nD τ) Set.univ (semOf k) n K')
    (h : kDuties k r = {false}) (ha : Above ι O) (hι : ι < 20) {Q : PUnit → sProp 𝕄} :
    iprop(Inv m K ∗ cred (tallyAt (cell c k) ι n) ∗ owing c O ∗ posR c k r)
      ⊢ iprop(((owing c O ∗ posR c k (r + 1) ∗ kPay m c k r false) -∗ Q ⟨⟩) -∗ WP c (Prog.lift w) Q) := by
  subst hn
  unfold owing posR
  iintro ⟨#HI, Hc, ⟨%W, HO⟩, Hat, -⟩ Hk
  unfold Prog.lift
  iapply (Rounds.wp_wait_rest_token 𝒱₀ ER (ringRd m) (c : Thread nD τ) none (κ := K (c, k)) hw (Set.mem_univ _) ι (O := O) (W := W) (R := r) (m := 0) (T := ∅)
      (by rw [Nat.zero_add, expect_one m c k h])) $$ [Hc HO Hat]
  · isplitr; · iapply (inv_at m K c k); iexact HI
    isplitl [Hc]; · iexact Hc
    isplitl [HO]; · iexact HO
    isplitr; · iapply (mayWait ha hι c (semOf k)); iapply (inv_lev m K); iexact HI
    iexact Hat
  iintro ⟨HO, Hat, #Hr, Hpay⟩
  rw [wp_ret]; imodintro
  iapply Hk
  isplitl [HO]; · iexists _; iexact HO
  isplitl [Hat]
  · isplitl [Hat]; · iexact Hat
    iexact Hr
  iapply (Entails.of_eq (rest_one m c k h)) $$ Hpay

/-- The wait for the neighbour's credit of step `s`: its slot. -/
theorem wp_crWait (c : Dev nD) {s : ℕ} (hs : s < 6) (δ : Bool) (O : CellTallies nD τ sig ℕ) (ha : Above (s + 2) O) {Q : PUnit → sProp 𝕄} :
    iprop(Inv m K ∗ cred (tallyAt (cell c (.cr δ (sl s))) (s + 2) 1) ∗ owing c O ∗ posR c (.cr δ (sl s)) (s / 2))
      ⊢ iprop(((owing c O ∗ posR c (.cr δ (sl s)) (s / 2 + 1) ∗ (subAny (tg δ c) δ (sl s) 0 ∗ subAny (tg δ c) δ (sl s) 1
          ∗ reached ER (cell (tg δ c) (.rv δ (sl s) 0)) ((s + 1) / 2) ∗ reached ER (cell (tg δ c) (.rv δ (sl s) 1)) ((s + 1) / 2))) -∗ Q ⟨⟩)
        -∗ WP c (semWaitWord (crS δ (sl s)) 1#32) Q) := by
  have H := wp_waitOne m K c (.cr δ (sl s)) (s / 2) (s + 2) O (n := 1) rfl (wpE_semWait_eq 𝒱₀ (c : Thread nD τ) none Set.univ (sem := crS δ (sl s)) (k := (1#32).toNat))
    (duties_cr hs) ha (by omega) (Q := Q)
  rw [pay_cr] at H
  exact H

/-- The wait for step `s`'s send of half `j`: the half sent is free. -/
theorem wp_sentP (c : Dev nD) {s : ℕ} (hs : s < 7) (δ : Bool) (j : Fin 2) (O : CellTallies nD τ sig ℕ) (ha : Above 0 O) {Q : PUnit → sProp 𝕄} :
    iprop(Inv m K ∗ cred (tallyAt (cell c (.sd δ (sl s) j)) 0 N) ∗ owing c O ∗ posR c (.sd δ (sl s) j) (s / 2))
      ⊢ iprop(((owing c O ∗ posR c (.sd δ (sl s) j) (s / 2 + 1) ∗ subAny c δ (sl s) j) -∗ Q ⟨⟩) -∗ WP c (sentP s δ j) Q) := by
  have H := wp_waitOne m K c (.sd δ (sl s) j) (s / 2) 0 O (n := (subM δ (sl s) j).view.dmaCredit) (subCredit _ _ _).symm
    (wpE_waitDma2_eq 𝒱₀ (c : Thread nD τ) none Set.univ (sem := sdS δ (sl s) j) (src := subM δ (sl (s + 1)) j) (dst := subM δ (sl s) j)
      (hsrc := subWE δ (sl (s + 1)) j) (hdst := subWE δ (sl s) j)) (duties_sd hs) ha (by omega) (Q := Q)
  rw [pay_sd, subCredit] at H
  exact H

/-- The wait for what the neighbour sent at step `s`. -/
theorem wp_recvP (c : Dev nD) {s : ℕ} (hs : s < 7) (δ : Bool) (j : Fin 2) (O : CellTallies nD τ sig ℕ) (ha : Above (s + 2) O) {Q : PUnit → sProp 𝕄} :
    iprop(Inv m K ∗ cred (tallyAt (cell c (.rv δ (sl (s + 1)) j)) (s + 2) N) ∗ owing c O ∗ posR c (.rv δ (sl (s + 1)) j) (s / 2))
      ⊢ iprop(((owing c O ∗ posR c (.rv δ (sl (s + 1)) j) (s / 2 + 1)
          ∗ subAt c δ (sl (s + 1)) j (sentV m δ j s (fr δ c)) ∗ reached ER (cell (fr δ c) (.cr δ (sl (s + 1)))) ((s + 1) / 2)) -∗ Q ⟨⟩)
        -∗ WP c (recvP (s + 1) δ j) Q) := by
  have H := wp_waitOne m K c (.rv δ (sl (s + 1)) j) (s / 2) (s + 2) O (n := (subM δ (sl (s + 1)) j).view.dmaCredit) (subCredit _ _ _).symm
    (wpE_waitDma2_eq 𝒱₀ (c : Thread nD τ) none Set.univ (sem := rvS δ (sl (s + 1)) j) (src := subM δ (sl (s + 1)) j) (dst := subM δ (sl (s + 1)) j)
      (hsrc := subWE δ (sl (s + 1)) j) (hdst := subWE δ (sl (s + 1)) j)) (duties_rv hs) ha (by omega) (Q := Q)
  rw [pay_rv, subCredit] at H
  exact H

omit [FloatOps F] in
/-- A half sent, as its owner holds it. -/
theorem sub_kept (c : Dev nD) (δ : Bool) (p j : Fin 2) (fs : Buf (Elt F) ((subM δ p j).view.loc (c : Thread nD τ))) :
    ((subM δ p j).view.loc (c : Thread nD τ) ↦[(subM δ p j).view.set]{fullShare} fs : sProp 𝕄) ⊢ subAny c δ p j := by
  unfold subAny
  rw [subM_set]
  iintro H
  iexists fs
  iexact H

omit [FloatOps F] in
/-- A half landed reads as the half sent. -/
theorem sub_landed (c : Dev nD) (δ : Bool) (p p' j : Fin 2) (fd : Buf (Elt F) ((subM δ p' j).view.loc (c : Thread nD τ)))
    (fs : (commM δ).view.ty.Contents (Elt F)) {X : Vec F S1x128x8192 .bf16}
    (h : (commM δ).view.readAt (Elt F) (subR p j).toLoadRect fs = X) :
    ((subM δ p' j).view.loc (c : Thread nD τ) ↦[(subM δ p' j).view.set]{fullShare}
      ((subM δ p' j).view.write (Elt F) fd ((subM δ p j).view.read (Elt F) fs) Finset.univ) : sProp 𝕄) ⊢ subAt c δ p' j X := by
  unfold subAt
  rw [subM_set]
  iintro H
  iexists ((subM δ p' j).view.write (Elt F) fd ((subM δ p j).view.read (Elt F) fs) Finset.univ)
  isplitr
  · ipureintro; exact (read_sent δ p p' j fd fs).trans h
  · iexact H

set_option maxRecDepth 4000 in
/-- Step `s`'s transfer of half `j`, addressed to any device that is the target. -/
theorem wp_send_to (c n : Dev nD) {s : ℕ} (hs : s < 7) (δ : Bool) (j : Fin 2) (hn : n = tg δ c) (O : CellTallies nD τ sig ℕ)
    {hsc : (subM δ (sl (s + 1)) j : Memref sig (Dev.tc n : Thread nD τ).2.kind .vmem S128x8192 .bf16).view.ref.isScScratch = false}
    {hsrc : (subM δ (sl s) j).view.WordExact} {hdst : (subM δ (sl (s + 1)) j).view.WordExact}
    {hsem : DmaTarget.Typed .vmem (.dma (rvS δ (sl (s + 1)) j)) (.remote (Dev.tc n : Thread nD τ) (subM δ (sl (s + 1)) j) (.dma (sdS δ (sl s) j)) hsc)}
    {Q : PUnit → sProp 𝕄} :
    iprop(Inv m K ∗ subAt c δ (sl s) j (sentV m δ j s c) ∗ subAny (tg δ c) δ (sl (s + 1)) j ∗ owing c (O + oSend c s δ j)
        ∗ dutyTok ER (cell c (.sd δ (sl s) j)) (s / 2) false ∗ reached ER (cell c (.sd δ (sl s) j)) (s / 2)
        ∗ dutyTok ER (cell (tg δ c) (.rv δ (sl (s + 1)) j)) (s / 2) false ∗ reached ER (cell (tg δ c) (.rv δ (sl (s + 1)) j)) (s / 2)
        ∗ reached ER (cell c (.cr δ (sl (s + 1)))) ((s + 1) / 2))
      ⊢ iprop(((owing c O ∗ cred (tallyAt (cell c (.sd δ (sl s) j)) 0 N)) -∗ Q ⟨⟩)
        -∗ WP c (Prog.lift (.enqueueDma (subM δ (sl s) j) (.remote (Dev.tc n : Thread nD τ) (subM δ (sl (s + 1)) j) (.dma (sdS δ (sl s) j)) hsc)
            (.dma (rvS δ (sl (s + 1)) j)) hsrc hdst hsem)) Q) := by
  subst hn
  unfold owing
  iintro ⟨#HI, Hs, Hd, ⟨%W, HO⟩, Ht, #Hr, Ht', #Hr', #Hc⟩ Hk
  unfold Prog.lift
  unfold subAt subAny
  icases Hs with ⟨%fs, %hfs, Hs⟩
  icases Hd with ⟨%fd, Hd⟩
  have hl := sub_landed (tg δ c) δ (sl s) (sl (s + 1)) j fd fs hfs
  rw [← subM_set δ (sl s) j, ← subM_set δ (sl (s + 1)) j]
  iapply (Rounds.wp_send_pointsTo_with 𝒱₀ ER (ringRd m) (c : Thread nD τ) none (c' := ((tg δ c : Dev nD) : Thread nD τ))
      (src := subM δ (sl s) j) (dst := subM δ (sl (s + 1)) j) (sS := .dma (sdS δ (sl s) j)) (sem := .dma (rvS δ (sl (s + 1)) j))
      (κ₁ := K (c, .sd δ (sl s) j)) (κ₂ := K (tg δ c, .rv δ (sl (s + 1)) j)) (fs := fs) (fd := fd) (q := fullShare)
      (F := reached ER (cell c (.cr δ (sl (s + 1)))) ((s + 1) / 2))
      (r₁ := s / 2) (r₂ := s / 2) (d₁ := false) (d₂ := false)
      (by rw [show ((c : Thread nD τ), SemLoc.dma (sdS δ (sl s) j)) = cell c (.sd δ (sl s) j) from rfl, duties_cell, duties_sd hs]; exact Finset.mem_singleton_self _)
      (by rw [show (((tg δ c : Dev nD) : Thread nD τ), SemLoc.dma (rvS δ (sl (s + 1)) j)) = cell (tg δ c) (.rv δ (sl (s + 1)) j) from rfl, duties_cell, duties_rv hs]; exact Finset.mem_singleton_self _)
      (s + 2) 0 N (subCredit δ (sl (s + 1)) j) (amount_cell m c (.sd δ (sl s) j) _ _) (amount_cell m (tg δ c) (.rv δ (sl (s + 1)) j) _ _) O rfl (W := W)
      (by
        rw [show ((c : Thread nD τ), SemLoc.dma (sdS δ (sl s) j)) = cell c (.sd δ (sl s) j) from rfl, payload_cell, pay_sd]
        exact sub_kept c δ (sl s) j fs)
      (by
        rw [show (((tg δ c : Dev nD) : Thread nD τ), SemLoc.dma (rvS δ (sl (s + 1)) j)) = cell (tg δ c) (.rv δ (sl (s + 1)) j) from rfl, payload_cell, pay_rv, fr_tg]
        refine sep_mono_left ?_
        exact hl)) $$ [Hs Hd HO Ht Ht']
  · isplitr; · iapply (inv_at m K c (.sd δ (sl s) j)); iexact HI
    isplitr; · iapply (inv_at m K (tg δ c) (.rv δ (sl (s + 1)) j)); iexact HI
    isplitl [Hs]; · iexact Hs
    isplitl [Hd]
    · isplitl [Hd]; · iexact Hd
      iexact Hc
    isplitl [HO]; · iexact HO
    isplitl [Ht]; · iexact Ht
    isplitr; · iexact Hr
    isplitl [Ht']; · iexact Ht'
    iexact Hr'
  iintro ⟨Hcr, HO⟩
  rw [wp_ret]; imodintro
  iapply Hk
  isplitl [HO]; · iexists _; iexact HO
  iexact Hcr

/-- Step `s`'s transfer of half `j`. -/
theorem wp_sendP (c : Dev nD) {s : ℕ} (hs : s < 7) (δ : Bool) (j : Fin 2) (O : CellTallies nD τ sig ℕ) {Q : PUnit → sProp 𝕄} :
    iprop(Inv m K ∗ subAt c δ (sl s) j (sentV m δ j s c) ∗ subAny (tg δ c) δ (sl (s + 1)) j ∗ owing c (O + oSend c s δ j)
        ∗ dutyTok ER (cell c (.sd δ (sl s) j)) (s / 2) false ∗ reached ER (cell c (.sd δ (sl s) j)) (s / 2)
        ∗ dutyTok ER (cell (tg δ c) (.rv δ (sl (s + 1)) j)) (s / 2) false ∗ reached ER (cell (tg δ c) (.rv δ (sl (s + 1)) j)) (s / 2)
        ∗ reached ER (cell c (.cr δ (sl (s + 1)))) ((s + 1) / 2))
      ⊢ iprop(((owing c O ∗ cred (tallyAt (cell c (.sd δ (sl s) j)) 0 N)) -∗ Q ⟨⟩) -∗ WP c (sendP c s δ j) Q) :=
  wp_send_to m K c _ hs δ j (toD_eq δ c) O

/-- A signal of one unit to cell `k` of device `n`. -/
theorem wp_sig (c n n' : Dev nD) (hn : n' = n) (k : Kd) (q : Sem sig) (hk : semOf k = .reg q) (hk1 : kAmount k = 1) (r ι : ℕ) (d : Bool)
    (hd : d ∈ kDuties k r) (O : CellTallies nD τ sig ℕ) {Q : PUnit → sProp 𝕄} :
    iprop(Inv m K ∗ owing c (O + tallyAt (cell n k) ι 1) ∗ dutyTok ER (cell n k) r d ∗ kPay m n k r d ∗ reached ER (cell n k) r)
      ⊢ iprop((owing c O -∗ Q ⟨⟩) -∗ WP c (semSignalWord n' q 1#32) Q) := by
  subst hn
  have hg : cell n' k = ((n' : Thread nD τ), SemLoc.reg q) := Prod.ext rfl hk
  unfold owing
  iintro ⟨#HI, ⟨%W, HO⟩, Ht, Hp, #Hr⟩ Hk
  ihave #Hi := (inv_at m K n' k) $$ HI
  have hd' := duties_cell m n' k r
  have ha' := amount_cell m n' k r d
  have hp' := payload_cell m n' k r d
  rw [hg] at hd' ha' hp'
  rw [hg]
  unfold semSignalWord
  iapply (Rounds.wp_signal 𝒱₀ ER (ringRd m) (c : Thread nD τ) none (dst := (n' : Thread nD τ)) (κ := K (n', k))
      (d := d) (r := r) (by rw [hd']; exact hd) (ha'.trans hk1) ι O rfl)
    $$ [HO Ht Hp]
  · isplitr; · iexact Hi
    isplitl [HO]; · iexact HO
    isplitl [Ht]; · iexact Ht
    isplitl [Hp]; · rw [hp']; iexact Hp
    iexact Hr
  iintro HO
  rw [wp_ret]; imodintro
  iapply Hk
  iexists _; iexact HO

/-- Step `s`'s credit in direction `δ`: the slot it sent from, to the device that sends into it. -/
theorem wp_crSig (c : Dev nD) {s : ℕ} (hs : s < 6) (δ : Bool) (O : CellTallies nD τ sig ℕ) {Q : PUnit → sProp 𝕄} :
    iprop(Inv m K ∗ owing c (O + oCr c s δ) ∗ dutyTok ER (cell (fr δ c) (.cr δ (sl s))) (s / 2) false
        ∗ (subAny c δ (sl s) 0 ∗ subAny c δ (sl s) 1
          ∗ reached ER (cell c (.rv δ (sl s) 0)) ((s + 1) / 2) ∗ reached ER (cell c (.rv δ (sl s) 1)) ((s + 1) / 2))
        ∗ reached ER (cell (fr δ c) (.cr δ (sl s))) (s / 2))
      ⊢ iprop((owing c O -∗ Q ⟨⟩) -∗ WP c (semSignalWord (toD (!δ) c) (crS δ (sl s)) 1#32) Q) := by
  have H := wp_sig m K c (fr δ c) (toD (!δ) c) (toD_eq _ c) (.cr δ (sl s)) (crS δ (sl s)) rfl rfl (s / 2) (s + 2) false
    (by rw [duties_cr hs]; exact Finset.mem_singleton_self _) O (Q := Q)
  rw [pay_cr, tg_fr] at H
  exact H

/-- The barrier's signal to the neighbour in direction `δ`, with this device's slot 1 that this neighbour sends into. -/
theorem wp_barSig (c : Dev nD) (δ : Bool) (O : CellTallies nD τ sig ℕ) {Q : PUnit → sProp 𝕄} :
    iprop(Inv m K ∗ owing c (O + oBar c δ) ∗ dutyTok ER (cell (tg δ c) .bar) 0 (!δ)
        ∗ (subAny c (!δ) 1 0 ∗ subAny c (!δ) 1 1) ∗ reached ER (cell (tg δ c) .bar) 0)
      ⊢ iprop((owing c O -∗ Q ⟨⟩) -∗ WP c (semSignalWord (toD δ c) barS 1#32) Q) := by
  have H := wp_sig m K c (tg δ c) (toD δ c) (toD_eq _ c) .bar barS rfl rfl 0 1 (!δ) (Finset.mem_univ _) O (Q := Q)
  have e : kPay m (tg δ c) .bar 0 (!δ) = iprop(subAny c (!δ) 1 0 ∗ subAny c (!δ) 1 1) := by
    show iprop(subAny (tg (!δ) (tg δ c)) (!δ) 1 0 ∗ subAny (tg (!δ) (tg δ c)) (!δ) 1 1) = _
    rw [tg_not, fr_tg]
  rw [e] at H
  exact H

/-- The barrier's wait: both neighbours' slots 1. -/
theorem wp_barWait (c : Dev nD) (O : CellTallies nD τ sig ℕ) (ha : Above 1 O) {Q : PUnit → sProp 𝕄} :
    iprop(Inv m K ∗ cred (tallyAt (cell c .bar) 1 2) ∗ owing c O ∗ posR c .bar 0)
      ⊢ iprop(((owing c O ∗ posR c .bar 1 ∗ (subAny (tg true c) true 1 0 ∗ subAny (tg true c) true 1 1)
          ∗ (subAny (tg false c) false 1 0 ∗ subAny (tg false c) false 1 1)) -∗ Q ⟨⟩) -∗ WP c (semWaitWord barS 2#32) Q) := by
  unfold owing posR
  iintro ⟨#HI, Hc, ⟨%W, HO⟩, Hat, -⟩ Hk
  unfold semWaitWord
  iapply (Rounds.wp_wait_rest_token 𝒱₀ ER (ringRd m) (c : Thread nD τ) none (κ := K (c, .bar)) (wpE_semWait_eq 𝒱₀ (c : Thread nD τ) none Set.univ)
      (Set.mem_univ _) 1 (O := O) (W := W) (R := 0) (m := 0) (T := ∅)
      ((Nat.zero_add _).trans (expect_bar m c).symm)) $$ [Hc HO Hat]
  · isplitr; · iapply (inv_at m K c .bar); iexact HI
    isplitl [Hc]; · iexact Hc
    isplitl [HO]; · iexact HO
    isplitr; · iapply (mayWait ha (by decide) c (.reg barS)); iapply (inv_lev m K); iexact HI
    iexact Hat
  iintro ⟨HO, Hat, #Hr, Hpay⟩
  rw [wp_ret]; imodintro
  iapply Hk
  isplitl [HO]; · iexists _; iexact HO
  isplitl [Hat]
  · isplitl [Hat]; · iexact Hat
    iexact Hr
  have e : (bigSep ((ringRd m).duties ((c : Thread nD τ), SemLoc.reg barS) 0 \ ∅) (fun d => (ringRd m).payload ((c : Thread nD τ), SemLoc.reg barS) 0 d) : sProp 𝕄)
      ⊢ iprop(kPay m c .bar 0 true ∗ kPay m c .bar 0 false) := Entails.of_eq (rest_bar m c)
  iapply e $$ Hpay

end Cert.KernelIdeal.RingPf
-- ==== Proof.Ideal.Compute.lean ====
/-
# The pieces that compute

The first products into slot 0, the products of the steps, and the receives with their additions: what they leave in the
communication buffers and in the result.
-/
module

public import proofs.«01_k».proof.Proof.Ideal.Pieces

@[expose] public section

noncomputable section

namespace Cert.KernelIdeal.RingPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Kd → ℕ)

/-! ## The sub-blocks' elements -/

/-- An index lies in a half when its slot is the half's and its row one of the half's 128. -/
theorem mem_subR (p j : Fin 2) (i : S2x256x8192.Idx) :
    i ∈ (subR p j).set ↔ (i 0).val = p.val ∧ 128 * j.val ≤ (i 1).val ∧ (i 1).val < 128 * j.val + 128 := by
  rw [Rect.mem_set_unit]
  have h2 : (i 2).val < 8192 := (i 2).isLt
  constructor
  · intro h
    have h0 := h 0
    have h1 := h 1
    simp at h0 h1
    omega
  · rintro ⟨h0, h1, h1'⟩ a
    fin_cases a <;> simp <;> omega

/-- An index lies in the whole slot 0 when its slot is 0. -/
theorem mem_slotR (i : S2x256x8192.Idx) : i ∈ slotR.set ↔ (i 0).val = 0 := by
  rw [Rect.mem_set_unit]
  have h2 : (i 2).val < 8192 := (i 2).isLt
  have h1 : (i 1).val < 256 := (i 1).isLt
  constructor
  · intro h
    have h0 := h 0
    simp at h0
    omega
  · intro h0 a
    fin_cases a <;> simp <;> omega

/-- Slot 0 is its two halves, slot 1's halves are apart from it and from each other, and together they are everything. -/
theorem rect_sets : Disjoint (subR 0 0).set (subR 0 1).set ∧ slotR.set = (subR 0 0).set ∪ (subR 0 1).set
    ∧ Disjoint (subR 1 0).set (subR 1 1).set ∧ Disjoint slotR.set ((subR 1 0).set ∪ (subR 1 1).set)
    ∧ slotR.set ∪ ((subR 1 0).set ∪ (subR 1 1).set) = (Finset.univ : Finset S2x256x8192.Idx) := by
  refine ⟨?_, ?_, ?_, ?_, ?_⟩
  · rw [Finset.disjoint_left]; intro i; rw [mem_subR, mem_subR]; simp; omega
  · ext i
    have h1 : (i 1).val < 256 := (i 1).isLt
    rw [Finset.mem_union, mem_subR, mem_subR, mem_slotR]; simp; omega
  · rw [Finset.disjoint_left]; intro i; rw [mem_subR, mem_subR]; simp; omega
  · rw [Finset.disjoint_left]; intro i; rw [Finset.mem_union, mem_subR, mem_subR, mem_slotR]; simp; omega
  · ext i
    have h1 : (i 1).val < 256 := (i 1).isLt
    have h0 : (i 0).val < 2 := (i 0).isLt
    rw [Finset.mem_union, Finset.mem_union, mem_subR, mem_subR, mem_slotR]; simp; omega

/-- The elements of slot 0. -/
abbrev slotSet (δ : Bool) := ((commM δ).access slotR).set

/-- The same of a communication buffer's elements. -/
theorem buf_sets (δ : Bool) : Disjoint (subSet δ 0 0) (subSet δ 0 1) ∧ slotSet δ = subSet δ 0 0 ∪ subSet δ 0 1
    ∧ Disjoint (subSet δ 1 0) (subSet δ 1 1) ∧ Disjoint (slotSet δ) (subSet δ 1 0 ∪ subSet δ 1 1)
    ∧ slotSet δ ∪ (subSet δ 1 0 ∪ subSet δ 1 1) = Finset.univ := by
  have e : ∀ (b : Ref sig .tc) (r : Rect b.ty.shape), ((View.whole b).slice r).set = r.set := fun b r => View.set_slice_whole b r
  have h := rect_sets
  cases δ
  · rw [← e cc0_scratch1 (subR 0 0), ← e cc0_scratch1 (subR 0 1), ← e cc0_scratch1 (subR 1 0), ← e cc0_scratch1 (subR 1 1), ← e cc0_scratch1 slotR] at h
    exact h
  · rw [← e cc0_scratch0 (subR 0 0), ← e cc0_scratch0 (subR 0 1), ← e cc0_scratch0 (subR 1 0), ← e cc0_scratch0 (subR 1 1), ← e cc0_scratch0 slotR] at h
    exact h

/-- Slot 0 of device `c`'s buffer of direction `δ`, at any contents. -/
def slotAny (c : Dev nD) (δ : Bool) : sProp 𝕄 :=
  iprop(∃ f : Buf (Elt F) ((commM δ).view.loc (c : Thread nD τ)), ((commM δ).view.loc (c : Thread nD τ) ↦[slotSet δ]{fullShare} f))

omit [FloatOps F] in
/-- A whole buffer is its slot 0 and the halves of its slot 1. -/
theorem buf_split (c : Dev nD) (δ : Bool) (f : Buf (Elt F) ((commM δ).view.loc (c : Thread nD τ))) :
    ((commM δ).view.loc (c : Thread nD τ) ↦{fullShare} f : sProp 𝕄) ⊢ iprop(slotAny c δ ∗ subAny c δ 1 0 ∗ subAny c δ 1 1) := by
  obtain ⟨-, -, h11, hd, hu⟩ := buf_sets δ
  unfold slotAny subAny
  iintro H
  have e : ((commM δ).view.loc (c : Thread nD τ) ↦{fullShare} f : sProp 𝕄)
      ⊢ iprop(((commM δ).view.loc (c : Thread nD τ) ↦[slotSet δ]{fullShare} f) ∗ ((commM δ).view.loc (c : Thread nD τ) ↦[subSet δ 1 0]{fullShare} f)
        ∗ ((commM δ).view.loc (c : Thread nD τ) ↦[subSet δ 1 1]{fullShare} f)) := by
    rw [← hu]
    exact (pointsTo_union hd).1.trans (sep_mono_right (pointsTo_union h11).1)
  ihave H := e $$ H
  icases H with ⟨H0, H1, H2⟩
  isplitl [H0]; · iexists f; iexact H0
  isplitl [H1]; · iexists f; iexact H1
  iexists f; iexact H2

omit [FloatOps F] in
/-- The four halves make the whole buffer. -/
theorem buf_join (c : Dev nD) (δ : Bool) :
    iprop(subAny c δ 0 0 ∗ subAny c δ 0 1 ∗ subAny c δ 1 0 ∗ subAny c δ 1 1)
      ⊢ (iprop(∃ f : Buf (Elt F) ((commM δ).view.loc (c : Thread nD τ)), (commM δ).view.loc (c : Thread nD τ) ↦{fullShare} f) : sProp 𝕄) := by
  obtain ⟨h00, hs, h11, hd, hu⟩ := buf_sets δ
  unfold subAny
  iintro ⟨⟨%f0, H0⟩, ⟨%f1, H1⟩, ⟨%f2, H2⟩, ⟨%f3, H3⟩⟩
  have e0 := pointsTo_join (Ix := ℕ) (Name := ℕ) (U := UU) (Lvl := ℕ) (ℓ := (commM δ).view.loc (c : Thread nD τ)) (q := fullShare) (f := f0) (g := f1) h00
  have e1 := pointsTo_join (Ix := ℕ) (Name := ℕ) (U := UU) (Lvl := ℕ) (ℓ := (commM δ).view.loc (c : Thread nD τ)) (q := fullShare) (f := f2) (g := f3) h11
  ihave H0 := e0 $$ [H0 H1]
  · isplitl [H0] <;> iassumption
  ihave H2 := e1 $$ [H2 H3]
  · isplitl [H2] <;> iassumption
  rw [← hs]
  have e2 := pointsTo_join (Ix := ℕ) (Name := ℕ) (U := UU) (Lvl := ℕ) (ℓ := (commM δ).view.loc (c : Thread nD τ)) (q := fullShare)
    (f := (subSet δ 0 1).piecewise f1 f0) (g := (subSet δ 1 1).piecewise f3 f2) hd
  ihave H := e2 $$ [H0 H2]
  · isplitl [H0] <;> iassumption
  rw [hu]
  iexists _; iexact H

/-! ## The staged blocks -/

/-- The staged block of `x`, held. -/
def xPts (c : Dev nD) : sProp 𝕄 := iprop(((c : Thread nD τ).loc cc0_stg0_0) ↦{fullShare} (xS m c : Buf (Elt F) ((c : Thread nD τ).loc cc0_stg0_0)))
/-- The staged block of `w`, held. -/
def wPts (c : Dev nD) : sProp 𝕄 := iprop(((c : Thread nD τ).loc cc0_stg1_0) ↦{fullShare} (wS m c : Buf (Elt F) ((c : Thread nD τ).loc cc0_stg1_0)))
/-- The result's staging buffer, held. -/
def oPts (c : Dev nD) (f : (cc0_stg2_0 : Ref sig .tc).ty.Contents (Elt F)) : sProp 𝕄 :=
  iprop(((c : Thread nD τ).loc cc0_stg2_0) ↦{fullShare} (f : Buf (Elt F) ((c : Thread nD τ).loc cc0_stg2_0)))

/-- The offset of a whole array is zero on both axes. -/
theorem hz : (![0, 0] : Fin 2 → Nat) = fun _ => 0 := funext fun a => by fin_cases a <;> rfl
omit [FloatOps F] in
/-- Loading all of the staged `w` gives its contents. -/
theorem read_w (f : (cc0_stg1_0 : Ref sig .tc).ty.Contents (Elt F)) :
    wM.view.readAt (Elt F) (Rect.unit (s := S512x8192) ![0, 0] S512x8192.size inb_S512x8192_S512x8192_0_0).toLoadRect f = f :=
  Memref.readAt_unit_zero (Elt F) cc0_stg1_0 hz _ f

/-- The product of step `s`, with its offset as the program gives it. -/
theorem prodS_val (δ : Bool) (s : Fin 7) (c : Dev nD) : prodS m δ s.val c = mmP (xAt m c (offS δ c s) (offS_inb δ c s)) (wS m c) := by
  have e : Fin.ofNat 7 s.val = s := Fin.ext (Nat.mod_eq_of_lt s.isLt)
  have h : ∀ t : Fin 7, t = s → mmP (xAt m c (offS δ c t) (offS_inb δ c t)) (wS m c) = mmP (xAt m c (offS δ c s) (offS_inb δ c s)) (wS m c) := by
    rintro t rfl; rfl
  exact h _ e

/-! ## The pieces -/

/-- A piece, then the rest. -/
theorem wp_seq (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (wp_bind _ _ _ p k Q).symm

/-- The end of a program. -/
theorem wp_done (c : Dev nD) {α : Type} {a : α} {Q : α → sProp 𝕄} : Q a ⊢ WP c (.ret a) Q :=
  fupd_intro.trans (Entails.of_eq (wp_ret _ _ _ a Q).symm)

/-- Loading a block of the staged `x`. -/
theorem wp_loadX (c : Dev nD) (o : Fin 2 → Nat) (h : ∀ a, o a + S256x512.size a ≤ S4096x512.size a) {Q : Vec F S256x512 .bf16 → sProp 𝕄} :
    xPts m c ⊢ iprop((xPts m c -∗ Q (xAt m c o h)) -∗ WP c (loadX o h) Q) := by
  unfold xPts xAt loadX Prog.lift
  iintro Hx Hk
  iapply (wp_load 𝒱₀ (c : Thread nD τ) none Set.univ (m := xM) (Finset.subset_univ _)) $$ Hx; iintro Hx
  rw [wp_ret]; imodintro
  iapply Hk; iexact Hx

/-- Loading the staged `w`. -/
theorem wp_loadW (c : Dev nD) {Q : Vec F S512x8192 .bf16 → sProp 𝕄} :
    wPts m c ⊢ iprop((wPts m c -∗ Q (wS m c)) -∗ WP c loadW Q) := by
  unfold wPts loadW Prog.lift
  iintro Hw Hk
  iapply (wp_load 𝒱₀ (c : Thread nD τ) none Set.univ (m := wM) (Finset.subset_univ _)) $$ Hw; iintro Hw
  rw [read_w, wp_ret]; imodintro
  iapply Hk; iexact Hw

/-- The product of step `s` in direction `δ`. -/
theorem wp_mulP (c : Dev nD) (s : Fin 7) (δ : Bool) {Q : FVec F S256x8192 .f32 → sProp 𝕄} :
    iprop(xPts m c ∗ wPts m c) ⊢ iprop(((xPts m c ∗ wPts m c) -∗ Q (prodS m δ s.val c)) -∗ WP c (mulP c s δ) Q) := by
  rw [prodS_val]
  unfold mulP
  iintro ⟨Hx, Hw⟩ Hk
  iapply (wp_seq c)
  iapply (wp_loadX m c (offS δ c s) (offS_inb δ c s)) $$ Hx; iintro Hx
  iapply (wp_seq c)
  iapply (wp_loadW m c) $$ Hw; iintro Hw
  iapply (wp_done c)
  iapply Hk
  isplitl [Hx] <;> iassumption

/-- The first product goes into slot 0: its halves hold what step 0 sends. -/
theorem wp_iniP (c : Dev nD) (δ : Bool) {Q : PUnit → sProp 𝕄} :
    iprop(xPts m c ∗ wPts m c ∗ slotAny c δ)
      ⊢ iprop(((xPts m c ∗ wPts m c ∗ subAt c δ 0 0 (sentV m δ 0 0 c) ∗ subAt c δ 0 1 (sentV m δ 1 0 c)) -∗ Q ⟨⟩) -∗ WP c (iniP c δ) Q) := by
  obtain ⟨h00, hs, -, -, -⟩ := buf_sets δ
  unfold iniP slotAny
  iintro ⟨Hx, Hw, ⟨%f, Hs⟩⟩ Hk
  iapply (wp_seq c)
  iapply (wp_loadX m c (offI δ c) (offI_inb δ c)) $$ Hx; iintro Hx
  iapply (wp_seq c)
  iapply (wp_loadW m c) $$ Hw; iintro Hw
  simp only [Prog.lift, Prog.bind_op, Prog.bind_ret]
  iapply (wp_load_rect 𝒱₀ (c : Thread nD τ) none Set.univ (m := commM δ) (r := slotR) (Finset.Subset.refl _)) $$ Hs; iintro Hs
  iapply (wp_store 𝒱₀ (c : Thread nD τ) none Set.univ (m := commM δ) (r := slotR) (Mk := Finset.univ) (View.setOn_subset_set _ _)) $$ Hs; iintro Hs
  rw [wp_ret]; imodintro
  iapply Hk
  isplitl [Hx]; · iexact Hx
  isplitl [Hw]; · iexact Hw
  have e : (((commM δ).access slotR).loc (c : Thread nD τ) ↦[slotSet δ]{fullShare} (((commM δ).access slotR).write (Elt F) f (k0_pay1 (xAt m c (offI δ c) (offI_inb δ c)) (wS m c)) Finset.univ) : sProp 𝕄)
      ⊢ iprop(((commM δ).view.loc (c : Thread nD τ) ↦[subSet δ 0 0]{fullShare} (((commM δ).access slotR).write (Elt F) f (prodI m δ c) Finset.univ))
        ∗ ((commM δ).view.loc (c : Thread nD τ) ↦[subSet δ 0 1]{fullShare} (((commM δ).access slotR).write (Elt F) f (prodI m δ c) Finset.univ))) := by
    rw [hs]
    exact (pointsTo_union h00).1
  ihave H := e $$ Hs
  icases H with ⟨H0, H1⟩
  unfold subAt
  isplitl [H0]
  · iexists _
    isplitr
    · ipureintro; exact read_half δ 0 f (prodI m δ c)
    · iexact H0
  · iexists _
    isplitr
    · ipureintro; exact read_half δ 1 f (prodI m δ c)
    · iexact H1

/-- Receive what the neighbour sent at step `s`, add: the half holds what step `s + 1` sends. -/
theorem wp_addP (c : Dev nD) {s : ℕ} (hs : s < 7) (δ : Bool) (j : Fin 2) (O : CellTallies nD τ sig ℕ) (ha : Above (s + 2) O) {Q : PUnit → sProp 𝕄} :
    iprop(Inv m K ∗ cred (tallyAt (cell c (.rv δ (sl (s + 1)) j)) (s + 2) N) ∗ owing c O ∗ posR c (.rv δ (sl (s + 1)) j) (s / 2))
      ⊢ iprop(((owing c O ∗ posR c (.rv δ (sl (s + 1)) j) (s / 2 + 1)
          ∗ subAt c δ (sl (s + 1)) j (sentV m δ j (s + 1) c) ∗ reached ER (cell (fr δ c) (.cr δ (sl (s + 1)))) ((s + 1) / 2)) -∗ Q ⟨⟩)
        -∗ WP c (addP (s + 1) δ j (prodS m δ s c)) Q) := by
  unfold addP
  iintro H Hk
  iapply (wp_seq c)
  iapply (wp_recvP m K c hs δ j O ha) $$ H
  iintro ⟨HO, Hp, Hs, Hr⟩
  unfold subAt
  icases Hs with ⟨%f, %hf, Hs⟩
  simp only [loadSub, Prog.lift, Prog.bind_op, Prog.bind_ret]
  iapply (wp_load_rect 𝒱₀ (c : Thread nD τ) none Set.univ (m := commM δ) (r := subR (sl (s + 1)) j) (Finset.Subset.refl _)) $$ Hs; iintro Hs
  iapply (wp_load_rect 𝒱₀ (c : Thread nD τ) none Set.univ (m := commM δ) (r := subR (sl (s + 1)) j) (Finset.Subset.refl _)) $$ Hs; iintro Hs
  iapply (wp_store 𝒱₀ (c : Thread nD τ) none Set.univ (m := commM δ) (r := subR (sl (s + 1)) j) (Mk := Finset.univ) (View.setOn_subset_set _ _)) $$ Hs; iintro Hs
  rw [wp_ret]; imodintro
  iapply Hk
  isplitl [HO]; · iexact HO
  isplitl [Hp]; · iexact Hp
  isplitl [Hs]
  · iexists _
    isplitr
    rotate_left
    · iexact Hs
    · ipureintro
      refine (read_sub δ (sl (s + 1)) j f _).trans ?_
      show accP j (prodS m δ s c) _ = accP j (prodS m δ s c) (sentV m δ j s (fr δ c))
      rw [← hf]
      rfl
  · iexact Hr

/-- What the last receive of half `j` writes to the result's rows of direction `δ`. -/
def outV (δ : Bool) (j : Fin 2) (c : Dev nD) : FVec F S128x8192 .f32 := outP j (prodS m δ 6 c) (sentV m δ j 6 (fr δ c))

/-- The last arrival of a half: it is waited for, and its sum with the last product is written to the half's rows of the result. -/
theorem wp_finP (c : Dev nD) (δ : Bool) (j : Fin 2) (f : (cc0_stg2_0 : Ref sig .tc).ty.Contents (Elt F)) {Q : PUnit → sProp 𝕄} :
    iprop(Inv m K ∗ cred (tallyAt (cell c (.rv δ (sl 7) j)) 8 N) ∗ owing c 0 ∗ posR c (.rv δ (sl 7) j) 3 ∗ oPts c f)
      ⊢ iprop(((owing c 0 ∗ posR c (.rv δ (sl 7) j) 4 ∗ subAny c δ (sl 7) j ∗ oPts c ((oM.access (outR δ j)).write (Elt F) f (outV m δ j c) Finset.univ)) -∗ Q ⟨⟩)
        -∗ WP c (finP 7 δ j (prodS m δ 6 c)) Q) := by
  unfold finP
  iintro ⟨HI, Hc, HO, Hp, Hout⟩ Hk
  iapply (wp_seq c)
  iapply (wp_recvP m K c (s := 6) (by decide) δ j 0 (above_zero _)) $$ [HI Hc HO Hp]
  · isplitl [HI]; · iexact HI
    isplitl [Hc]; · iexact Hc
    isplitl [HO]; · iexact HO
    iexact Hp
  iintro ⟨HO, Hp, Hs, -⟩
  unfold subAt oPts
  icases Hs with ⟨%g, %hg, Hs⟩
  simp only [loadSub, Prog.lift, Prog.bind_op, Prog.bind_ret]
  iapply (wp_load_rect 𝒱₀ (c : Thread nD τ) none Set.univ (m := commM δ) (r := subR (sl 7) j) (Finset.Subset.refl _)) $$ Hs; iintro Hs
  iapply (wp_load 𝒱₀ (c : Thread nD τ) none Set.univ (m := oM) (Finset.subset_univ _)) $$ Hout; iintro Hout
  iapply (wp_store 𝒱₀ (c : Thread nD τ) none Set.univ (m := oM) (r := outR δ j) (Mk := Finset.univ) (Finset.subset_univ _)) $$ Hout; iintro Hout
  rw [wp_ret]; imodintro
  iapply Hk
  isplitl [HO]; · iexact HO
  isplitl [Hp]; · iexact Hp
  isplitl [Hs]; · unfold subAny; iexists g; iexact Hs
  unfold outV
  rw [← hg]
  iexact Hout

end Cert.KernelIdeal.RingPf
-- ==== Proof.Ideal.Steps.lean ====
/-
# A step of the ring

What a channel - a direction and a row half - holds before and after the sends of a step and after the waits for them,
and how the parts of a step take one to the next.
-/
module

public import proofs.«01_k».proof.Proof.Ideal.Compute

@[expose] public section

noncomputable section

namespace Cert.KernelIdeal.RingPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Kd → ℕ)

/-! ## The states -/

/-- Over the two directions. -/
def q2 (Φ : Bool → sProp 𝕄) : sProp 𝕄 := iprop(Φ true ∗ Φ false)
/-- Over the four channels, in the order the program takes them. -/
def q4 (Φ : Bool → Fin 2 → sProp 𝕄) : sProp 𝕄 := iprop(Φ true 0 ∗ Φ false 0 ∗ Φ true 1 ∗ Φ false 1)

/-- What step `t` needs for one transfer: the duties of its receive and send cells, and the tokens for the wait for what
    arrives of the same step. -/
def kit (c : Dev nD) (t : ℕ) (δ : Bool) (j : Fin 2) : sProp 𝕄 :=
  iprop(dutyTok ER (cell (tg δ c) (.rv δ (sl (t + 1)) j)) (t / 2) false ∗ dutyTok ER (cell c (.sd δ (sl t) j)) (t / 2) false
    ∗ cred (tallyAt (cell c (.rv δ (sl (t + 1)) j)) (t + 2) N))
/-- What step `t` needs for one credit: the duty, and the token for the wait for the neighbour's. -/
def kitC (c : Dev nD) (t : ℕ) (δ : Bool) : sProp 𝕄 :=
  iprop(dutyTok ER (cell (fr δ c) (.cr δ (sl t))) (t / 2) false ∗ cred (tallyAt (cell c (.cr δ (sl t))) (t + 2) 1))

/-- A channel before step `t`'s transfer. -/
def Mid (c : Dev nD) (t : ℕ) (δ : Bool) (j : Fin 2) : sProp 𝕄 :=
  iprop(subAt c δ (sl t) j (sentV m δ j t c) ∗ subAny (tg δ c) δ (sl (t + 1)) j ∗ kit c t δ j
    ∗ reached ER (cell (tg δ c) (.rv δ (sl (t + 1)) j)) (t / 2) ∗ reached ER (cell c (.cr δ (sl (t + 1)))) ((t + 1) / 2)
    ∗ posR c (.rv δ (sl t) j) ((t + 1) / 2) ∗ posR c (.rv δ (sl (t + 1)) j) (t / 2)
    ∗ posR c (.sd δ (sl t) j) (t / 2) ∗ posR c (.sd δ (sl (t + 1)) j) ((t + 1) / 2)
    ∗ reached ER (cell (fr δ c) (.cr δ (sl t))) (t / 2))

/-- A channel after step `t`'s transfer was started. -/
def Sent (c : Dev nD) (t : ℕ) (δ : Bool) (j : Fin 2) : sProp 𝕄 :=
  iprop(cred (tallyAt (cell c (.sd δ (sl t) j)) 0 N) ∗ cred (tallyAt (cell c (.rv δ (sl (t + 1)) j)) (t + 2) N)
    ∗ posR c (.rv δ (sl t) j) ((t + 1) / 2) ∗ posR c (.rv δ (sl (t + 1)) j) (t / 2)
    ∗ posR c (.sd δ (sl t) j) (t / 2) ∗ posR c (.sd δ (sl (t + 1)) j) ((t + 1) / 2)
    ∗ reached ER (cell (fr δ c) (.cr δ (sl t))) (t / 2))

/-- A channel after step `t`'s transfer was waited for. -/
def Ch (c : Dev nD) (t : ℕ) (δ : Bool) (j : Fin 2) : sProp 𝕄 :=
  iprop(cred (tallyAt (cell c (.rv δ (sl (t + 1)) j)) (t + 2) N)
    ∗ posR c (.rv δ (sl t) j) ((t + 1) / 2) ∗ posR c (.rv δ (sl (t + 1)) j) (t / 2)
    ∗ posR c (.sd δ (sl t) j) (t / 2 + 1) ∗ posR c (.sd δ (sl (t + 1)) j) ((t + 1) / 2)
    ∗ reached ER (cell (fr δ c) (.cr δ (sl t))) (t / 2))

/-- A direction's credit cells after step `t`'s sends. -/
def CrP (c : Dev nD) (t : ℕ) (δ : Bool) : sProp 𝕄 :=
  iprop(posR c (.cr δ (sl t)) (t / 2) ∗ posR c (.cr δ (sl (t + 1))) ((t + 1) / 2))

/-- Slots alternate. -/
theorem sl_succ_succ (s : ℕ) : sl (s + 1 + 1) = sl s := sl_add_two s
/-- Two steps on is one round on. -/
theorem half_succ_succ (s : ℕ) : (s + 1 + 1) / 2 = s / 2 + 1 := by omega

/-! ## One channel -/

/-- Step `t`'s transfer is started: its units are paid, the half and its tokens handed in. -/
theorem wp_sendCh (c : Dev nD) {t : ℕ} (ht : t < 7) (δ : Bool) (j : Fin 2) (O : CellTallies nD τ sig ℕ) {Q : PUnit → sProp 𝕄} :
    iprop(Inv m K ∗ owing c (O + oSend c t δ j) ∗ Mid m c t δ j)
      ⊢ iprop(((owing c O ∗ Sent c t δ j) -∗ Q ⟨⟩) -∗ WP c (sendP c t δ j) Q) := by
  unfold Mid kit Sent
  iintro ⟨HI, HO, Hs, Hd, ⟨Ht, Ht', Hc⟩, Hr, Hrc, Hv, Hv', Hp, Hp', Hf⟩ Hk
  ihave Hp := (posR_reached c _ _) $$ Hp
  icases Hp with ⟨Hp, Hrp⟩
  iapply (wp_sendP m K c ht δ j O) $$ [HI Hs Hd HO Ht' Hrp Ht Hr Hrc]
  · isplitl [HI]; · iexact HI
    isplitl [Hs]; · iexact Hs
    isplitl [Hd]; · iexact Hd
    isplitl [HO]; · iexact HO
    isplitl [Ht']; · iexact Ht'
    isplitl [Hrp]; · iexact Hrp
    isplitl [Ht]; · iexact Ht
    isplitl [Hr]; · iexact Hr
    iexact Hrc
  iintro ⟨HO, Hcs⟩
  iapply Hk
  isplitl [HO]; · iexact HO
  isplitl [Hcs]; · iexact Hcs
  isplitl [Hc]; · iexact Hc
  isplitl [Hv]; · iexact Hv
  isplitl [Hv']; · iexact Hv'
  isplitl [Hp]; · iexact Hp
  isplitl [Hp']; · iexact Hp'
  iexact Hf

/-- Step `t`'s transfer is waited for: the half it sent is the device's again. -/
theorem wp_sentCh (c : Dev nD) {t : ℕ} (ht : t < 7) (δ : Bool) (j : Fin 2) (O : CellTallies nD τ sig ℕ) (ha : Above 0 O) {Q : PUnit → sProp 𝕄} :
    iprop(Inv m K ∗ owing c O ∗ Sent c t δ j)
      ⊢ iprop(((owing c O ∗ Ch c t δ j ∗ subAny c δ (sl t) j) -∗ Q ⟨⟩) -∗ WP c (sentP t δ j) Q) := by
  unfold Sent Ch
  iintro ⟨HI, HO, Hcs, Hc, Hv, Hv', Hp, Hp', Hf⟩ Hk
  iapply (wp_sentP m K c ht δ j O ha) $$ [HI Hcs HO Hp]
  · isplitl [HI]; · iexact HI
    isplitl [Hcs]; · iexact Hcs
    isplitl [HO]; · iexact HO
    iexact Hp
  iintro ⟨HO, Hp, Hs⟩
  iapply Hk
  isplitl [HO]; · iexact HO
  isplitr [Hs]
  · isplitl [Hc]; · iexact Hc
    isplitl [Hv]; · iexact Hv
    isplitl [Hv']; · iexact Hv'
    isplitl [Hp]; · iexact Hp
    isplitl [Hp']; · iexact Hp'
    iexact Hf
  iexact Hs

/-- From step `t` to the next: receive and add. -/
theorem wp_addCh (c : Dev nD) {t : ℕ} (ht : t < 7) (δ : Bool) (j : Fin 2) (O : CellTallies nD τ sig ℕ) (ha : Above (t + 2) O) {Q : PUnit → sProp 𝕄} :
    iprop(Inv m K ∗ owing c O ∗ Ch c t δ j ∗ kit c (t + 1) δ j ∗ subAny (tg δ c) δ (sl t) j
        ∗ reached ER (cell (tg δ c) (.rv δ (sl t) j)) ((t + 1) / 2) ∗ reached ER (cell c (.cr δ (sl t))) (t / 2 + 1))
      ⊢ iprop(((owing c O ∗ Mid m c (t + 1) δ j) -∗ Q ⟨⟩) -∗ WP c (addP (t + 1) δ j (prodS m δ t c)) Q) := by
  unfold Mid Ch
  rw [sl_succ_succ, half_succ_succ]
  iintro ⟨HI, HO, ⟨Hc, Hv, Hv', Hp, Hp', -⟩, Hkit, Hd, Hr, Hrc⟩ Hk
  iapply (wp_addP m K c ht δ j O ha) $$ [HI Hc HO Hv']
  · isplitl [HI]; · iexact HI
    isplitl [Hc]; · iexact Hc
    isplitl [HO]; · iexact HO
    iexact Hv'
  iintro ⟨HO, Hv', Hs, Hf⟩
  iapply Hk
  isplitl [HO]; · iexact HO
  isplitl [Hs]; · iexact Hs
  isplitl [Hd]; · iexact Hd
  isplitl [Hkit]; · iexact Hkit
  isplitl [Hr]; · iexact Hr
  isplitl [Hrc]; · iexact Hrc
  isplitl [Hv']; · iexact Hv'
  isplitl [Hv]; · iexact Hv
  isplitl [Hp']; · iexact Hp'
  isplitl [Hp]; · iexact Hp
  iexact Hf

/-! ## The parts of a step -/

/-- The products and the waits for the sends. -/
theorem wp_tailP (c : Dev nD) (t : Fin 7) (O : CellTallies nD τ sig ℕ) (ha : Above 0 O)
    {Q : FVec F S256x8192 .f32 × FVec F S256x8192 .f32 → sProp 𝕄} :
    iprop(Inv m K ∗ owing c O ∗ (xPts m c ∗ wPts m c) ∗ q4 (Sent c t.val))
      ⊢ iprop(((owing c O ∗ (xPts m c ∗ wPts m c) ∗ q4 (fun δ j => iprop(Ch c t.val δ j ∗ subAny c δ (sl t.val) j))) -∗ Q (prodS m true t.val c, prodS m false t.val c))
        -∗ WP c (tailP c t) Q) := by
  unfold tailP q4
  iintro ⟨#HI, HO, Hxw, H0, H1, H2, H3⟩ Hk
  iapply (wp_seq c)
  iapply (wp_mulP m c t true) $$ Hxw; iintro Hxw
  iapply (wp_seq c)
  iapply (wp_mulP m c t false) $$ Hxw; iintro Hxw
  iapply (wp_seq c)
  iapply (wp_sentCh m K c t.isLt true 0 O ha) $$ [HO H0]
  · isplitr; · iexact HI
    isplitl [HO] <;> iassumption
  iintro ⟨HO, H0⟩
  iapply (wp_seq c)
  iapply (wp_sentCh m K c t.isLt false 0 O ha) $$ [HO H1]
  · isplitr; · iexact HI
    isplitl [HO] <;> iassumption
  iintro ⟨HO, H1⟩
  iapply (wp_seq c)
  iapply (wp_sentCh m K c t.isLt true 1 O ha) $$ [HO H2]
  · isplitr; · iexact HI
    isplitl [HO] <;> iassumption
  iintro ⟨HO, H2⟩
  iapply (wp_seq c)
  iapply (wp_sentCh m K c t.isLt false 1 O ha) $$ [HO H3]
  · isplitr; · iexact HI
    isplitl [HO] <;> iassumption
  iintro ⟨HO, H3⟩
  iapply (wp_done c)
  iapply Hk
  isplitl [HO]; · iexact HO
  isplitl [Hxw]; · iexact Hxw
  isplitl [H0]; · iexact H0
  isplitl [H1]; · iexact H1
  isplitl [H2]; · iexact H2
  iexact H3

/-- A slot freed in one direction. -/
theorem wp_freeCh (c : Dev nD) {t : ℕ} (ht : t < 6) (δ : Bool) (O : CellTallies nD τ sig ℕ) {Q : PUnit → sProp 𝕄} :
    iprop(Inv m K ∗ owing c (O + oCr c t δ) ∗ kitC c t δ ∗ (Ch c t δ 0 ∗ subAny c δ (sl t) 0) ∗ (Ch c t δ 1 ∗ subAny c δ (sl t) 1))
      ⊢ iprop(((owing c O ∗ cred (tallyAt (cell c (.cr δ (sl t))) (t + 2) 1) ∗ Ch c t δ 0 ∗ Ch c t δ 1) -∗ Q ⟨⟩)
        -∗ WP c (semSignalWord (toD (!δ) c) (crS δ (sl t)) 1#32) Q) := by
  unfold kitC Ch
  iintro ⟨HI, HO, ⟨Ht, Hcr⟩, ⟨⟨Hc, Hv, Hv', Hp, Hp', #Hf⟩, Hs⟩, ⟨⟨Gc, Gv, Gv', Gp, Gp', -⟩, Gs⟩⟩ Hk
  ihave Hv := (posR_reached c _ _) $$ Hv
  icases Hv with ⟨Hv, Hr⟩
  ihave Gv := (posR_reached c _ _) $$ Gv
  icases Gv with ⟨Gv, Gr⟩
  iapply (wp_crSig m K c ht δ O) $$ [HI HO Ht Hs Gs Hr Gr]
  · isplitl [HI]; · iexact HI
    isplitl [HO]; · iexact HO
    isplitl [Ht]; · iexact Ht
    isplitl [Hs Gs Hr Gr]
    · isplitl [Hs]; · iexact Hs
      isplitl [Gs]; · iexact Gs
      isplitl [Hr] <;> iassumption
    iexact Hf
  iintro HO
  iapply Hk
  isplitl [HO]; · iexact HO
  isplitl [Hcr]; · iexact Hcr
  isplitl [Hc Hv Hv' Hp Hp']
  · isplitl [Hc]; · iexact Hc
    isplitl [Hv]; · iexact Hv
    isplitl [Hv']; · iexact Hv'
    isplitl [Hp]; · iexact Hp
    isplitl [Hp']; · iexact Hp'
    iexact Hf
  · isplitl [Gc]; · iexact Gc
    isplitl [Gv]; · iexact Gv
    isplitl [Gv']; · iexact Gv'
    isplitl [Gp]; · iexact Gp
    isplitl [Gp']; · iexact Gp'
    iexact Hf

/-- The freed halves go back to the neighbours as credits, and what is owed is what the next steps pay. -/
theorem wp_freeP (c : Dev nD) {t : ℕ} (ht : t < 6) {Q : PUnit → sProp 𝕄} :
    iprop(Inv m K ∗ owing c (oTail c t) ∗ q2 (kitC c t) ∗ q4 (fun δ j => iprop(Ch c t δ j ∗ subAny c δ (sl t) j)))
      ⊢ iprop(((owing c (oRest c (t + 1)) ∗ q2 (fun δ => cred (tallyAt (cell c (.cr δ (sl t))) (t + 2) 1)) ∗ q4 (Ch c t)) -∗ Q ⟨⟩)
        -∗ WP c (freeP c t) Q) := by
  rw [oTail_peel c ht]
  unfold freeP q2 q4
  iintro ⟨#HI, HO, ⟨Hk1, Hk2⟩, H0, H1, H2, H3⟩ Hk
  iapply (wp_seq c)
  iapply (wp_freeCh m K c ht true _) $$ [HO Hk1 H0 H2]
  · isplitr; · iexact HI
    isplitl [HO]; · iexact HO
    isplitl [Hk1]; · iexact Hk1
    isplitl [H0] <;> iassumption
  iintro ⟨HO, Hc1, H0, H2⟩
  iapply (wp_freeCh m K c ht false _) $$ [HO Hk2 H1 H3]
  · isplitr; · iexact HI
    isplitl [HO]; · iexact HO
    isplitl [Hk2]; · iexact Hk2
    isplitl [H1] <;> iassumption
  iintro ⟨HO, Hc2, H1, H3⟩
  iapply Hk
  isplitl [HO]; · iexact HO
  isplitl [Hc1 Hc2]; · isplitl [Hc1] <;> iassumption
  isplitl [H0]; · iexact H0
  isplitl [H1]; · iexact H1
  isplitl [H2] <;> iassumption

/-- What one half of the next step needs of a channel besides its state. -/
def Give (c : Dev nD) (t : ℕ) (δ : Bool) (j : Fin 2) : sProp 𝕄 :=
  iprop(kit c (t + 1) δ j ∗ subAny (tg δ c) δ (sl t) j ∗ reached ER (cell (tg δ c) (.rv δ (sl t) j)) ((t + 1) / 2) ∗ reached ER (cell c (.cr δ (sl t))) (t / 2 + 1))

/-- One half of a step: both directions receive and add, then both send. -/
theorem wp_halfP (c : Dev nD) {t : ℕ} (ht : t < 6) (j : Fin 2) (O : CellTallies nD τ sig ℕ) (ha : Above (t + 2) O) {Q : PUnit → sProp 𝕄} :
    iprop(Inv m K ∗ owing c (O + oSend c (t + 1) false j + oSend c (t + 1) true j) ∗ (Ch c t true j ∗ Give c t true j) ∗ (Ch c t false j ∗ Give c t false j))
      ⊢ iprop(((owing c O ∗ Sent c (t + 1) true j ∗ Sent c (t + 1) false j) -∗ Q ⟨⟩)
        -∗ WP c (halfP c (t + 1) j (prodS m true t c, prodS m false t c)) Q) := by
  have ha1 : Above (t + 2) (O + oSend c (t + 1) false j) := ha.add (above_send c _ _ (by omega) (by omega))
  have ha2 : Above (t + 2) (O + oSend c (t + 1) false j + oSend c (t + 1) true j) := ha1.add (above_send c _ _ (by omega) (by omega))
  unfold halfP Give
  iintro ⟨#HI, HO, H0, H1⟩ Hk
  iapply (wp_seq c)
  iapply (wp_addCh m K c (by omega) true j _ ha2) $$ [HO H0]
  · isplitr; · iexact HI
    isplitl [HO] <;> iassumption
  iintro ⟨HO, H0⟩
  iapply (wp_seq c)
  iapply (wp_addCh m K c (by omega) false j _ ha2) $$ [HO H1]
  · isplitr; · iexact HI
    isplitl [HO] <;> iassumption
  iintro ⟨HO, H1⟩
  iapply (wp_seq c)
  iapply (wp_sendCh m K c (by omega) true j _) $$ [HO H0]
  · isplitr; · iexact HI
    isplitl [HO] <;> iassumption
  iintro ⟨HO, H0⟩
  iapply (wp_sendCh m K c (by omega) false j _) $$ [HO H1]
  · isplitr; · iexact HI
    isplitl [HO] <;> iassumption
  iintro ⟨HO, H1⟩
  iapply Hk
  isplitl [HO]; · iexact HO
  isplitl [H0] <;> iassumption

/-- The part of step `t + 1` up to its sends. -/
theorem wp_headP (c : Dev nD) {t : ℕ} (ht : t < 6) {Q : PUnit → sProp 𝕄} :
    iprop(Inv m K ∗ owing c (oRest c (t + 1)) ∗ q2 (fun δ => cred (tallyAt (cell c (.cr δ (sl t))) (t + 2) 1)) ∗ q2 (CrP c t)
        ∗ q4 (Ch c t) ∗ q4 (kit c (t + 1)))
      ⊢ iprop(((owing c (oTail c (t + 1)) ∗ q2 (CrP c (t + 1)) ∗ q4 (Sent c (t + 1))) -∗ Q ⟨⟩)
        -∗ WP c (headP c t (prodS m true t c, prodS m false t c)) Q) := by
  have hr : Above (t + 2) (oRest c (t + 1)) := above_rest c (by omega)
  have h1 : Above (t + 2) (oTail c (t + 1)) := above_tail c (by omega) (by omega)
  have h2 : Above (t + 2) (oTail c (t + 1) + oSend c (t + 1) false 1 + oSend c (t + 1) true 1) :=
    (h1.add (above_send c _ _ (by omega) (by omega))).add (above_send c _ _ (by omega) (by omega))
  unfold headP q2 q4 CrP
  rw [sl_succ_succ, half_succ_succ]
  iintro ⟨#HI, HO, ⟨Hc1, Hc2⟩, ⟨⟨Hp1, Hn1⟩, ⟨Hp2, Hn2⟩⟩, ⟨H0, H1, H2, H3⟩, ⟨K0, K1, K2, K3⟩⟩ Hk
  iapply (wp_seq c)
  iapply (wp_crWait m K c ht true _ hr) $$ [HO Hc1 Hp1]
  · isplitr; · iexact HI
    isplitl [Hc1]; · iexact Hc1
    isplitl [HO] <;> iassumption
  iintro ⟨HO, Hp1, S0, S2, #R0, #R2⟩
  iapply (wp_seq c)
  iapply (wp_crWait m K c ht false _ hr) $$ [HO Hc2 Hp2]
  · isplitr; · iexact HI
    isplitl [Hc2]; · iexact Hc2
    isplitl [HO] <;> iassumption
  iintro ⟨HO, Hp2, S1, S3, #R1, #R3⟩
  ihave Hp1 := (posR_reached c _ _) $$ Hp1
  icases Hp1 with ⟨Hp1, #Rc1⟩
  ihave Hp2 := (posR_reached c _ _) $$ Hp2
  icases Hp2 with ⟨Hp2, #Rc2⟩
  rw [oRest_peel c (show t + 1 < 7 by omega)]
  iapply (wp_seq c)
  iapply (wp_halfP m K c ht 0 _ h2) $$ [HO H0 H1 S0 S1 K0 K1]
  · isplitr; · iexact HI
    isplitl [HO]; · iexact HO
    unfold Give
    isplitl [H0 K0 S0]
    · isplitl [H0]; · iexact H0
      isplitl [K0]; · iexact K0
      isplitl [S0]; · iexact S0
      isplitr; · iexact R0
      iexact Rc1
    · isplitl [H1]; · iexact H1
      isplitl [K1]; · iexact K1
      isplitl [S1]; · iexact S1
      isplitr; · iexact R1
      iexact Rc2
  iintro ⟨HO, H0, H1⟩
  iapply (wp_halfP m K c ht 1 _ h1) $$ [HO H2 H3 S2 S3 K2 K3]
  · isplitr; · iexact HI
    isplitl [HO]; · iexact HO
    unfold Give
    isplitl [H2 K2 S2]
    · isplitl [H2]; · iexact H2
      isplitl [K2]; · iexact K2
      isplitl [S2]; · iexact S2
      isplitr; · iexact R2
      iexact Rc1
    · isplitl [H3]; · iexact H3
      isplitl [K3]; · iexact K3
      isplitl [S3]; · iexact S3
      isplitr; · iexact R3
      iexact Rc2
  iintro ⟨HO, H2, H3⟩
  iapply Hk
  isplitl [HO]; · iexact HO
  isplitl [Hp1 Hn1 Hp2 Hn2]
  · isplitl [Hp1 Hn1]
    · isplitl [Hn1] <;> iassumption
    · isplitl [Hn2] <;> iassumption
  isplitl [H0]; · iexact H0
  isplitl [H1]; · iexact H1
  isplitl [H2] <;> iassumption

/-- A device between steps: after step `t` and the freeing of its slot. -/
def St (c : Dev nD) (t : ℕ) : sProp 𝕄 :=
  iprop(owing c (oRest c (t + 1)) ∗ (xPts m c ∗ wPts m c) ∗ q2 (fun δ => cred (tallyAt (cell c (.cr δ (sl t))) (t + 2) 1)) ∗ q2 (CrP c t) ∗ q4 (Ch c t))

/-- Step `t + 1`. -/
theorem wp_stepP (c : Dev nD) (t : Fin 6) (ht : t.val < 5) {Q : FVec F S256x8192 .f32 × FVec F S256x8192 .f32 → sProp 𝕄} :
    iprop(Inv m K ∗ St m c t.val ∗ q4 (kit c (t.val + 1)) ∗ q2 (kitC c (t.val + 1)))
      ⊢ iprop((St m c (t.val + 1) -∗ Q (prodS m true (t.val + 1) c, prodS m false (t.val + 1) c))
        -∗ WP c (stepP c t (prodS m true t.val c, prodS m false t.val c)) Q) := by
  unfold stepP St
  iintro ⟨#HI, ⟨HO, Hxw, Hcr, Hp, Hch⟩, Hkit, HkitC⟩ Hk
  iapply (wp_seq c)
  iapply (wp_headP m K c (t := t.val) (by omega)) $$ [HO Hcr Hp Hch Hkit]
  · isplitr; · iexact HI
    isplitl [HO]; · iexact HO
    isplitl [Hcr]; · iexact Hcr
    isplitl [Hp]; · iexact Hp
    isplitl [Hch] <;> iassumption
  iintro ⟨HO, Hp, Hch⟩
  iapply (wp_seq c)
  iapply (wp_tailP m K c t.succ (oTail c (t.val + 1)) (above_tail c (by omega) (by omega))) $$ [HO Hxw Hch]
  · isplitr; · iexact HI
    isplitl [HO]; · iexact HO
    isplitl [Hxw]; · iexact Hxw
    iexact Hch
  iintro ⟨HO, Hxw, Hch⟩
  iapply (wp_seq c)
  iapply (wp_freeP m K c (t := t.val + 1) (by omega)) $$ [HO HkitC Hch]
  · isplitr; · iexact HI
    isplitl [HO]; · iexact HO
    isplitl [HkitC]; · iexact HkitC
    iexact Hch
  iintro ⟨HO, Hcr, Hch⟩
  iapply (wp_done c)
  simp only [Fin.val_succ]
  iapply Hk
  isplitl [HO]; · iexact HO
  isplitl [Hxw]; · iexact Hxw
  isplitl [Hcr]; · iexact Hcr
  isplitl [Hp] <;> iassumption

end Cert.KernelIdeal.RingPf
-- ==== Proof.Ideal.Body.lean ====
/-
# The whole body

From the cells at round 0 and the whole communication buffers, through the entry, the seven steps and the exit, to the
result and the cells past their last duties.
-/
module

public import proofs.«01_k».proof.Proof.Ideal.Steps

@[expose] public section

noncomputable section

namespace Cert.KernelIdeal.RingPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Kd → ℕ)

/-! ## The result -/

/-- An index within its block of 128 rows. -/
def rowIn (i : S512x8192.Idx) : S128x8192.Idx
  | ⟨0, _⟩ => ⟨(i 0).val % 128, Nat.mod_lt _ (by decide)⟩
  | ⟨1, _⟩ => i 1

/-- The kernel's result on device `c`: four blocks of 128 rows, the first two from the direction towards the next device. -/
def outAt (c : Dev nD) : (cc0_stg2_0 : Ref sig .tc).ty.Contents (Elt F) := fun i =>
  if (i 0).val < 128 then outV m true 0 c (rowIn i)
  else if (i 0).val < 256 then outV m true 1 c (rowIn i)
  else if (i 0).val < 384 then outV m false 0 c (rowIn i)
  else outV m false 1 c (rowIn i)

/-- A block's rows written. -/
def wrO (δ : Bool) (j : Fin 2) (c : Dev nD) (f : (cc0_stg2_0 : Ref sig .tc).ty.Contents (Elt F)) : (cc0_stg2_0 : Ref sig .tc).ty.Contents (Elt F) :=
  (oM.access (outR δ j)).write (Elt F) f (outV m δ j c) Finset.univ

/-- The array after a block's rows are written, at an index: the block's value inside its rows, the old value elsewhere. -/
theorem wrO_at (δ : Bool) (j : Fin 2) (c : Dev nD) (f : (cc0_stg2_0 : Ref sig .tc).ty.Contents (Elt F)) (i : S512x8192.Idx) :
    wrO m δ j c f i = if rowO δ j ≤ (i 0).val ∧ (i 0).val < rowO δ j + 128 then outV m δ j c (rowIn i) else f i := by
  have h1 : (i 1).val < 8192 := (i 1).isLt
  split
  · rename_i h
    have hr : rowO δ j % 128 = 0 := by clear h; revert δ j; decide
    have e : (oM.access (outR δ j)).emb (rowIn i) = i := by
      show (outR δ j).emb (rowIn i) = i
      funext a
      refine Fin.ext ?_
      rw [ValueKit.rect_emb_unit_val]
      fin_cases a
      · show rowO δ j + (i 0).val % 128 = (i 0).val
        omega
      · show 0 + (i 1).val = (i 1).val
        omega
    have w := View.write_emb_of_mem (v := oM.access (outR δ j)) (Val := Elt F) f (outV m δ j c) (M := Finset.univ) (x := rowIn i) (Finset.mem_univ _)
    rw [e] at w
    exact w
  · rename_i h
    refine View.write_of_not_mem (v := oM.access (outR δ j)) (Val := Elt F) f (outV m δ j c) Finset.univ ?_
    rw [View.setOn_univ]
    intro hm
    have hm' : i ∈ (outR δ j).set := by
      have := hm
      rw [show (oM.access (outR δ j)).set = (outR δ j).set from View.set_slice_whole cc0_stg2_0 (outR δ j)] at this
      exact this
    rw [Rect.mem_set_unit] at hm'
    exact h (hm' 0)

/-- All four blocks written, the array is the device's result, whatever it held before. -/
theorem wrO_all (c : Dev nD) (f : (cc0_stg2_0 : Ref sig .tc).ty.Contents (Elt F)) :
    wrO m false 1 c (wrO m true 1 c (wrO m false 0 c (wrO m true 0 c f))) = outAt m c := by
  funext i
  have h0 : (i 0).val < 512 := (i 0).isLt
  rw [wrO_at, wrO_at, wrO_at, wrO_at]
  unfold outAt
  have h00 : rowO true 0 = 0 := rfl
  have h01 : rowO true 1 = 128 := rfl
  have h10 : rowO false 0 = 256 := rfl
  have h11 : rowO false 1 = 384 := rfl
  rw [h00, h01, h10, h11]
  by_cases a : (i 0).val < 128
  · rw [if_neg (by omega), if_neg (by omega), if_neg (by omega), if_pos (by omega), if_pos a]
  by_cases b : (i 0).val < 256
  · rw [if_neg (by omega), if_pos (by omega), if_neg a, if_pos b]
  by_cases d : (i 0).val < 384
  · rw [if_neg (by omega), if_neg (by omega), if_pos (by omega), if_neg a, if_neg b, if_pos d]
  · rw [if_pos (by omega), if_neg a, if_neg b, if_neg d]

/-! ## The positions -/

/-- The round after a cell's last duty. -/
def finR : Kd → ℕ
  | .bar => 1
  | .cr _ _ => 3
  | .sd _ p _ => 4 - p.val
  | .rv _ p _ => 3 + p.val

/-- From a cell's last round on it has no duties. -/
theorem finR_past (k : Kd) (r : ℕ) (h : finR k ≤ r) : kDuties k r = ∅ := by
  cases k with
  | bar => simp only [finR] at h; exact if_neg (by omega)
  | cr δ p => simp only [finR] at h; exact if_neg (by have := p.isLt; omega)
  | sd δ p j => simp only [finR] at h; exact if_neg (by have := p.isLt; omega)
  | rv δ p j => simp only [finR] at h; exact if_neg (by have := p.isLt; omega)

/-- All cells, by direction and channel. -/
def byCh (Φ : Kd → sProp 𝕄) : sProp 𝕄 :=
  iprop(Φ .bar ∗ q2 (fun δ => iprop(Φ (.cr δ 0) ∗ Φ (.cr δ 1)))
    ∗ q4 (fun δ j => iprop(Φ (.sd δ 0 j) ∗ Φ (.sd δ 1 j) ∗ Φ (.rv δ 0 j) ∗ Φ (.rv δ 1 j))))

omit [FloatOps F] in
/-- A resource for every cell, listed cell by cell. -/
theorem kinds_list (Φ : Kd → sProp 𝕄) : bigSep Finset.univ Φ = iprop(Φ (.bar) ∗ Φ (.cr true 0) ∗ Φ (.cr true 1) ∗ Φ (.cr false 0) ∗ Φ (.cr false 1) ∗ Φ (.sd true 0 0) ∗ Φ (.sd true 0 1)
    ∗ Φ (.sd true 1 0) ∗ Φ (.sd true 1 1) ∗ Φ (.sd false 0 0) ∗ Φ (.sd false 0 1) ∗ Φ (.sd false 1 0) ∗ Φ (.sd false 1 1) ∗ Φ (.rv true 0 0)
    ∗ Φ (.rv true 0 1) ∗ Φ (.rv true 1 0) ∗ Φ (.rv true 1 1) ∗ Φ (.rv false 0 0) ∗ Φ (.rv false 0 1) ∗ Φ (.rv false 1 0) ∗ Φ (.rv false 1 1)) :=
  bigSep_univ_eq_bigSepL Kd.all (by decide) (by decide +kernel) Φ

omit [FloatOps F] in
/-- A resource for every cell, sorted by direction and channel. -/
theorem kinds_split (Φ : Kd → sProp 𝕄) : bigSep Finset.univ Φ ⊢ byCh Φ := by
  rw [kinds_list]
  unfold byCh q2 q4
  iintro ⟨B, C1, C2, C3, C4, S1, S2, S3, S4, S5, S6, S7, S8, R1, R2, R3, R4, R5, R6, R7, R8⟩
  isplitl [B]; · iexact B
  isplitl [C1 C2 C3 C4]
  · isplitl [C1 C2]
    · isplitl [C1] <;> iassumption
    · isplitl [C3] <;> iassumption
  isplitl [S1 S3 R1 R3]
  · isplitl [S1]; · iexact S1
    isplitl [S3]; · iexact S3
    isplitl [R1] <;> iassumption
  isplitl [S5 S7 R5 R7]
  · isplitl [S5]; · iexact S5
    isplitl [S7]; · iexact S7
    isplitl [R5] <;> iassumption
  isplitl [S2 S4 R2 R4]
  · isplitl [S2]; · iexact S2
    isplitl [S4]; · iexact S4
    isplitl [R2] <;> iassumption
  isplitl [S6]; · iexact S6
  isplitl [S8]; · iexact S8
  isplitl [R6] <;> iassumption

omit [FloatOps F] in
/-- The same back again. -/
theorem kinds_join (Φ : Kd → sProp 𝕄) : byCh Φ ⊢ bigSep Finset.univ Φ := by
  rw [kinds_list]
  unfold byCh q2 q4
  iintro ⟨B, ⟨⟨C1, C2⟩, ⟨C3, C4⟩⟩, ⟨S1, S3, R1, R3⟩, ⟨S5, S7, R5, R7⟩, ⟨S2, S4, R2, R4⟩, ⟨S6, S8, R6, R8⟩⟩
  isplitl [B]; · iexact B
  isplitl [C1]; · iexact C1
  isplitl [C2]; · iexact C2
  isplitl [C3]; · iexact C3
  isplitl [C4]; · iexact C4
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [R1]; · iexact R1
  isplitl [R2]; · iexact R2
  isplitl [R3]; · iexact R3
  isplitl [R4]; · iexact R4
  isplitl [R5]; · iexact R5
  isplitl [R6]; · iexact R6
  isplitl [R7]; · iexact R7
  iexact R8

/-- Every cell has reached its round 0. -/
def Reach : sProp 𝕄 := bigSep Finset.univ (fun i : Dev nD × Kd => reached ER (cell i.1 i.2) 0)
omit [FloatOps F] in
instance reach_persistent : BI.Persistent (Reach (F := F)) := by unfold Reach; infer_instance
omit [FloatOps F] in
/-- Any one cell has reached its round 0. -/
theorem reach_at (c : Dev nD) (k : Kd) : (Reach : sProp 𝕄) ⊢ reached ER (cell c k) 0 :=
  bigSep_elim (Φ := fun i : Dev nD × Kd => (reached ER (cell i.1 i.2) 0 : sProp 𝕄)) (Finset.mem_univ (c, k))

/-! ## Entry and exit -/

/-- A channel before step 0's transfer. -/
theorem mid_zero (c : Dev nD) (δ : Bool) (j : Fin 2) :
    iprop(Reach ∗ subAt c δ 0 j (sentV m δ j 0 c) ∗ subAny (tg δ c) δ 1 j ∗ kit c 0 δ j
        ∗ (posR c (.sd δ 0 j) 0 ∗ posR c (.sd δ 1 j) 0 ∗ posR c (.rv δ 0 j) 0 ∗ posR c (.rv δ 1 j) 0)) ⊢ Mid m c 0 δ j := by
  have e : Mid m c 0 δ j = iprop(subAt c δ 0 j (sentV m δ j 0 c) ∗ subAny (tg δ c) δ 1 j ∗ kit c 0 δ j
    ∗ reached ER (cell (tg δ c) (.rv δ 1 j)) 0 ∗ reached ER (cell c (.cr δ 1)) 0
    ∗ posR c (.rv δ 0 j) 0 ∗ posR c (.rv δ 1 j) 0
    ∗ posR c (.sd δ 0 j) 0 ∗ posR c (.sd δ 1 j) 0
    ∗ reached ER (cell (fr δ c) (.cr δ 0)) 0) := rfl
  rw [e]
  iintro ⟨#HR, Hs, Hd, Hk, P1, P2, P3, P4⟩
  isplitl [Hs]; · iexact Hs
  isplitl [Hd]; · iexact Hd
  isplitl [Hk]; · iexact Hk
  isplitr; · iapply (reach_at (tg δ c) (.rv δ 1 j)); iexact HR
  isplitr; · iapply (reach_at c (.cr δ 1)); iexact HR
  isplitl [P3]; · iexact P3
  isplitl [P4]; · iexact P4
  isplitl [P1]; · iexact P1
  isplitl [P2]; · iexact P2
  iapply (reach_at (fr δ c) (.cr δ 0)); iexact HR

/-- The tokens for the barrier: the duties at the neighbours and the two units. -/
def barT (c : Dev nD) : sProp 𝕄 :=
  iprop(dutyTok ER (cell (tg false c) .bar) 0 true ∗ dutyTok ER (cell (tg true c) .bar) 0 false ∗ cred (tallyAt (cell c .bar) 1 2))

/-- A communication buffer whole, at any contents. -/
def bufAny (c : Dev nD) (δ : Bool) : sProp 𝕄 :=
  iprop(∃ f : Buf (Elt F) ((commM δ).view.loc (c : Thread nD τ)), (commM δ).view.loc (c : Thread nD τ) ↦{fullShare} f)

/-- The entry: the barrier, then the first products. -/
theorem wp_entryP (c : Dev nD) {Q : PUnit → sProp 𝕄} :
    iprop(Inv m K ∗ Reach ∗ owing c (O₀ c) ∗ barT c ∗ posR c .bar 0 ∗ q2 (bufAny c) ∗ (xPts m c ∗ wPts m c))
      ⊢ iprop(((owing c (oRest c 0) ∗ posR c .bar 1 ∗ (xPts m c ∗ wPts m c)
            ∗ q4 (fun δ j => iprop(subAt c δ 0 j (sentV m δ j 0 c) ∗ subAny (tg δ c) δ 1 j))) -∗ Q ⟨⟩)
        -∗ WP c (entryP c) Q) := by
  unfold entryP barT q2 q4 O₀ bufAny
  iintro ⟨#HI, #HR, HO, ⟨Ht1, Ht2, Hc⟩, Hp, ⟨⟨%f1, B1⟩, ⟨%f2, B2⟩⟩, ⟨Hx, Hw⟩⟩ Hk
  ihave B1 := (buf_split c true f1) $$ B1
  icases B1 with ⟨S1, A10, A11⟩
  ihave B2 := (buf_split c false f2) $$ B2
  icases B2 with ⟨S2, A20, A21⟩
  iapply (wp_seq c)
  iapply (wp_barSig m K c false _) $$ [HO Ht1 A10 A11]
  · isplitr; · iexact HI
    isplitl [HO]; · iexact HO
    isplitl [Ht1]; · iexact Ht1
    isplitl [A10 A11]; · isplitl [A10]; · iexact A10
                         iexact A11
    iapply (reach_at (tg false c) .bar); iexact HR
  iintro HO
  iapply (wp_seq c)
  iapply (wp_barSig m K c true _) $$ [HO Ht2 A20 A21]
  · isplitr; · iexact HI
    isplitl [HO]; · iexact HO
    isplitl [Ht2]; · iexact Ht2
    isplitl [A20 A21]; · isplitl [A20]; · iexact A20
                         iexact A21
    iapply (reach_at (tg true c) .bar); iexact HR
  iintro HO
  iapply (wp_seq c)
  iapply (wp_barWait m K c _ (above_rest c (s := 0) (by decide))) $$ [HO Hc Hp]
  · isplitr; · iexact HI
    isplitl [Hc]; · iexact Hc
    isplitl [HO] <;> iassumption
  iintro ⟨HO, Hp, ⟨D0, D2⟩, ⟨D1, D3⟩⟩
  iapply (wp_seq c)
  iapply (wp_iniP m c true) $$ [Hx Hw S1]
  · isplitl [Hx]; · iexact Hx
    isplitl [Hw] <;> iassumption
  iintro ⟨Hx, Hw, E0, E2⟩
  iapply (wp_iniP m c false) $$ [Hx Hw S2]
  · isplitl [Hx]; · iexact Hx
    isplitl [Hw] <;> iassumption
  iintro ⟨Hx, Hw, E1, E3⟩
  iapply Hk
  isplitl [HO]; · iexact HO
  isplitl [Hp]; · iexact Hp
  isplitl [Hx Hw]; · isplitl [Hx] <;> iassumption
  isplitl [E0 D0]; · isplitl [E0] <;> iassumption
  isplitl [E1 D1]; · isplitl [E1] <;> iassumption
  isplitl [E2 D2]; · isplitl [E2] <;> iassumption
  isplitl [E3] <;> iassumption

/-- Step 0's transfers. -/
theorem wp_firstP (c : Dev nD) {Q : PUnit → sProp 𝕄} :
    iprop(Inv m K ∗ owing c (oRest c 0) ∗ q4 (Mid m c 0)) ⊢ iprop(((owing c (oTail c 0) ∗ q4 (Sent c 0)) -∗ Q ⟨⟩) -∗ WP c (firstP c) Q) := by
  rw [oRest_peel c (show 0 < 7 by decide)]
  unfold firstP q4
  iintro ⟨#HI, HO, H0, H1, H2, H3⟩ Hk
  iapply (wp_seq c)
  iapply (wp_sendCh m K c (by decide) true 0 _) $$ [HO H0]
  · isplitr; · iexact HI
    isplitl [HO] <;> iassumption
  iintro ⟨HO, H0⟩
  iapply (wp_seq c)
  iapply (wp_sendCh m K c (by decide) false 0 _) $$ [HO H1]
  · isplitr; · iexact HI
    isplitl [HO] <;> iassumption
  iintro ⟨HO, H1⟩
  iapply (wp_seq c)
  iapply (wp_sendCh m K c (by decide) true 1 _) $$ [HO H2]
  · isplitr; · iexact HI
    isplitl [HO] <;> iassumption
  iintro ⟨HO, H2⟩
  iapply (wp_sendCh m K c (by decide) false 1 _) $$ [HO H3]
  · isplitr; · iexact HI
    isplitl [HO] <;> iassumption
  iintro ⟨HO, H3⟩
  iapply Hk
  isplitl [HO]; · iexact HO
  isplitl [H0]; · iexact H0
  isplitl [H1]; · iexact H1
  isplitl [H2] <;> iassumption

/-- A channel at the end: its cells past their duties and both its halves. -/
def Fin4 (c : Dev nD) (δ : Bool) (j : Fin 2) : sProp 𝕄 :=
  iprop((posR c (.sd δ 0 j) 4 ∗ posR c (.sd δ 1 j) 3 ∗ posR c (.rv δ 0 j) 3 ∗ posR c (.rv δ 1 j) 4) ∗ subAny c δ 0 j ∗ subAny c δ 1 j)

/-- A channel's last receive. -/
theorem wp_finCh (c : Dev nD) (δ : Bool) (j : Fin 2) (f : (cc0_stg2_0 : Ref sig .tc).ty.Contents (Elt F)) {Q : PUnit → sProp 𝕄} :
    iprop(Inv m K ∗ owing c 0 ∗ oPts c f ∗ (Ch c 6 δ j ∗ subAny c δ (sl 6) j))
      ⊢ iprop(((owing c 0 ∗ oPts c (wrO m δ j c f) ∗ Fin4 c δ j) -∗ Q ⟨⟩) -∗ WP c (finP 7 δ j (prodS m δ 6 c)) Q) := by
  have e : Ch (F := F) c 6 δ j = iprop(cred (tallyAt (cell c (.rv δ (sl 7) j)) 8 N)
    ∗ posR c (.rv δ 0 j) 3 ∗ posR c (.rv δ (sl 7) j) 3 ∗ posR c (.sd δ 0 j) 4 ∗ posR c (.sd δ 1 j) 3
    ∗ reached ER (cell (fr δ c) (.cr δ 0)) 3) := rfl
  have e6 : sl 6 = 0 := rfl
  have e7 : sl 7 = 1 := rfl
  rw [e, e6]
  unfold Fin4 wrO
  iintro ⟨HI, HO, Hout, ⟨Hc, P0, P1, S0, S1, -⟩, Hs⟩ Hk
  iapply (wp_finP m K c δ j f) $$ [HI HO Hout Hc P1]
  · isplitl [HI]; · iexact HI
    isplitl [Hc]; · iexact Hc
    isplitl [HO]; · iexact HO
    isplitl [P1] <;> iassumption
  iintro ⟨HO, P1, Hs', Hout⟩
  rw [e7]
  iapply Hk
  isplitl [HO]; · iexact HO
  isplitl [Hout]; · iexact Hout
  isplitl [P0 P1 S0 S1]
  · isplitl [S0]; · iexact S0
    isplitl [S1]; · iexact S1
    isplitl [P0] <;> iassumption
  isplitl [Hs] <;> iassumption

/-- The exit: the last receives, and the result complete. -/
theorem wp_exitP (c : Dev nD) (f : (cc0_stg2_0 : Ref sig .tc).ty.Contents (Elt F)) {Q : PUnit → sProp 𝕄} :
    iprop(Inv m K ∗ owing c 0 ∗ oPts c f ∗ q4 (fun δ j => iprop(Ch c 6 δ j ∗ subAny c δ (sl 6) j)))
      ⊢ iprop(((owing c 0 ∗ oPts c (outAt m c) ∗ q4 (Fin4 c)) -∗ Q ⟨⟩) -∗ WP c (exitP (prodS m true 6 c, prodS m false 6 c)) Q) := by
  rw [← wrO_all m c f]
  unfold exitP q4
  iintro ⟨#HI, HO, Hout, H0, H1, H2, H3⟩ Hk
  iapply (wp_seq c)
  iapply (wp_finCh m K c true 0 _) $$ [HO Hout H0]
  · isplitr; · iexact HI
    isplitl [HO]; · iexact HO
    isplitl [Hout] <;> iassumption
  iintro ⟨HO, Hout, H0⟩
  iapply (wp_seq c)
  iapply (wp_finCh m K c false 0 _) $$ [HO Hout H1]
  · isplitr; · iexact HI
    isplitl [HO]; · iexact HO
    isplitl [Hout] <;> iassumption
  iintro ⟨HO, Hout, H1⟩
  iapply (wp_seq c)
  iapply (wp_finCh m K c true 1 _) $$ [HO Hout H2]
  · isplitr; · iexact HI
    isplitl [HO]; · iexact HO
    isplitl [Hout] <;> iassumption
  iintro ⟨HO, Hout, H2⟩
  iapply (wp_seq c)
  iapply (wp_finCh m K c false 1 _) $$ [HO Hout H3]
  · isplitr; · iexact HI
    isplitl [HO]; · iexact HO
    isplitl [Hout] <;> iassumption
  iintro ⟨HO, Hout, H3⟩
  iapply (wp_done c)
  iapply Hk
  isplitl [HO]; · iexact HO
  isplitl [Hout]; · iexact Hout
  isplitl [H0]; · iexact H0
  isplitl [H1]; · iexact H1
  isplitl [H2] <;> iassumption

/-! ## The body -/

/-- All steps' kits. -/
def kits (c : Dev nD) : sProp 𝕄 :=
  iprop(bigSep Finset.univ (fun t : Fin 7 => q4 (kit c t.val)) ∗ bigSep Finset.univ (fun t : Fin 6 => q2 (kitC c t.val)))

omit [FloatOps F] in
/-- A resource for each of seven steps, listed. -/
theorem bigSep_seven (Φ : ℕ → sProp 𝕄) : bigSep Finset.univ (fun t : Fin 7 => Φ t.val) = iprop(Φ 0 ∗ Φ 1 ∗ Φ 2 ∗ Φ 3 ∗ Φ 4 ∗ Φ 5 ∗ Φ 6) :=
  bigSep_univ_eq_bigSepL [0, 1, 2, 3, 4, 5, 6] (by decide) (by decide) (fun t : Fin 7 => Φ t.val)
omit [FloatOps F] in
/-- A resource for each of six steps, listed. -/
theorem bigSep_six (Φ : ℕ → sProp 𝕄) : bigSep Finset.univ (fun t : Fin 6 => Φ t.val) = iprop(Φ 0 ∗ Φ 1 ∗ Φ 2 ∗ Φ 3 ∗ Φ 4 ∗ Φ 5) :=
  bigSep_univ_eq_bigSepL [0, 1, 2, 3, 4, 5] (by decide) (by decide) (fun t : Fin 6 => Φ t.val)

/-- What the body starts from. -/
def Pre (c : Dev nD) : sProp 𝕄 :=
  iprop(Reach ∗ bigSep Finset.univ (fun k : Kd => posR c k 0) ∗ kits c ∗ barT c ∗ q2 (bufAny c))
/-- What it leaves besides the staged buffers. -/
def Post (c : Dev nD) : sProp 𝕄 :=
  iprop(bigSep Finset.univ (fun k : Kd => posR c k (finR k)) ∗ q2 (bufAny c))

omit [FloatOps F] in
/-- The barrier's, the credits' and the channels' final states make up what the body leaves. -/
theorem post_intro (c : Dev nD) : (iprop(posR c .bar 1 ∗ q2 (CrP c 6) ∗ q4 (Fin4 c)) : sProp 𝕄) ⊢ Post c := by
  have e : ∀ δ, CrP (F := F) c 6 δ = iprop(posR c (.cr δ 0) 3 ∗ posR c (.cr δ 1) 3) := fun _ => rfl
  have hk : byCh (fun k : Kd => posR (F := F) c k (finR k)) = iprop(posR c .bar 1
    ∗ q2 (fun δ => iprop(posR c (.cr δ 0) 3 ∗ posR c (.cr δ 1) 3))
    ∗ q4 (fun δ j => iprop(posR c (.sd δ 0 j) 4 ∗ posR c (.sd δ 1 j) 3 ∗ posR c (.rv δ 0 j) 3 ∗ posR c (.rv δ 1 j) 4))) := rfl
  have hj := kinds_join (fun k : Kd => posR (F := F) c k (finR k))
  rw [hk] at hj
  unfold Post Fin4
  unfold q2 q4 at *
  rw [e, e]
  iintro ⟨Hb, Hc, ⟨P0, A0, B0⟩, ⟨P1, A1, B1⟩, ⟨P2, A2, B2⟩, ⟨P3, A3, B3⟩⟩
  isplitl [Hb Hc P0 P1 P2 P3]
  · iapply hj
    isplitl [Hb]; · iexact Hb
    isplitl [Hc]; · iexact Hc
    isplitl [P0]; · iexact P0
    isplitl [P1]; · iexact P1
    isplitl [P2] <;> iassumption
  unfold bufAny
  isplitl [A0 B0 A2 B2]
  · iapply (buf_join c true)
    isplitl [A0]; · iexact A0
    isplitl [A2]; · iexact A2
    isplitl [B0] <;> iassumption
  · iapply (buf_join c false)
    isplitl [A1]; · iexact A1
    isplitl [A3]; · iexact A3
    isplitl [B1] <;> iassumption

/-- Step `t + 1`, numbered plainly. -/
theorem wp_stepN (c : Dev nD) (t : ℕ) (u : Fin 6) (hu : u.val = t) (ht : t < 5) {Q : FVec F S256x8192 .f32 × FVec F S256x8192 .f32 → sProp 𝕄} :
    iprop(Inv m K ∗ St m c t ∗ q4 (kit c (t + 1)) ∗ q2 (kitC c (t + 1)))
      ⊢ iprop((St m c (t + 1) -∗ Q (prodS m true (t + 1) c, prodS m false (t + 1) c))
        -∗ WP c (stepP c u (prodS m true t c, prodS m false t c)) Q) := by
  subst hu; exact wp_stepP m K c u ht

/-- The products and the waits of step `t`, numbered plainly. -/
theorem wp_tailN (c : Dev nD) (t : ℕ) (u : Fin 7) (hu : u.val = t) {Q : FVec F S256x8192 .f32 × FVec F S256x8192 .f32 → sProp 𝕄} :
    iprop(Inv m K ∗ owing c (oTail c t) ∗ (xPts m c ∗ wPts m c) ∗ q4 (Sent c t))
      ⊢ iprop(((owing c (oTail c t) ∗ (xPts m c ∗ wPts m c) ∗ q4 (fun δ j => iprop(Ch c t δ j ∗ subAny c δ (sl t) j))) -∗ Q (prodS m true t c, prodS m false t c))
        -∗ WP c (tailP c u) Q) := by
  subst hu; exact wp_tailP m K c u _ (above_tail c u.isLt (by omega))

/-- The body after the device's number is known. -/
def restP (c : Dev nD) : Prog (TpuEff nD τ sig (Elt F) Λ₀ .tc) PUnit := do
  entryP c
  firstP c
  let PQ ← tailP c 0
  freeP c 0
  let PQ ← stepP c 0 PQ
  let PQ ← stepP c 1 PQ
  let PQ ← stepP c 2 PQ
  let PQ ← stepP c 3 PQ
  let PQ ← stepP c 4 PQ
  headP c 5 PQ
  let PQ ← tailP c 6
  exitP PQ

/-- The body reads the device's number, then runs the rest at it. -/
theorem bodyP_rest : bodyP (F := F) = Prog.op .deviceId (fun d => restP d) := by
  unfold bodyP restP
  simp only [Prog.lift, Prog.bind_op, Prog.bind_ret]

/-- Reading the device's number: the continuation at it. -/
theorem wp_deviceP (c : Dev nD) (k : Dev nD → Prog (TpuEff nD τ sig (Elt F) Λ₀ .tc) PUnit) (Q : PUnit → sProp 𝕄) :
    WP c (Prog.op .deviceId k) Q = WP c (k c) Q :=
  wp_deviceId 𝒱₀ (c : Thread nD τ) none Set.univ

/-- Proving the body of a device is proving the rest at its number. -/
theorem wp_bodyP_rest (c : Dev nD) (Q : PUnit → sProp 𝕄) : WP c bodyP Q = WP c (restP c) Q := by
  have e := bodyP_rest (F := F)
  rw [e]
  exact wp_deviceP c restP Q

/-- What the first step needs of the cells, from all of them at round 0. -/
theorem mids_zero (c : Dev nD) :
    iprop(Reach ∗ q4 (fun δ j => iprop(subAt c δ 0 j (sentV m δ j 0 c) ∗ subAny (tg δ c) δ 1 j)) ∗ q4 (kit c 0)
        ∗ q4 (fun δ j => iprop(posR c (.sd δ 0 j) 0 ∗ posR c (.sd δ 1 j) 0 ∗ posR c (.rv δ 0 j) 0 ∗ posR c (.rv δ 1 j) 0))) ⊢ q4 (Mid m c 0) := by
  unfold q4
  iintro ⟨#HR, ⟨⟨A0, B0⟩, ⟨A1, B1⟩, ⟨A2, B2⟩, ⟨A3, B3⟩⟩, ⟨K0, K1, K2, K3⟩, P0, P1, P2, P3⟩
  isplitl [A0 B0 K0 P0]
  · iapply (mid_zero m c true 0); isplitr; · iexact HR
    isplitl [A0]; · iexact A0
    isplitl [B0]; · iexact B0
    isplitl [K0] <;> iassumption
  isplitl [A1 B1 K1 P1]
  · iapply (mid_zero m c false 0); isplitr; · iexact HR
    isplitl [A1]; · iexact A1
    isplitl [B1]; · iexact B1
    isplitl [K1] <;> iassumption
  isplitl [A2 B2 K2 P2]
  · iapply (mid_zero m c true 1); isplitr; · iexact HR
    isplitl [A2]; · iexact A2
    isplitl [B2]; · iexact B2
    isplitl [K2] <;> iassumption
  · iapply (mid_zero m c false 1); isplitr; · iexact HR
    isplitl [A3]; · iexact A3
    isplitl [B3]; · iexact B3
    isplitl [K3] <;> iassumption

set_option maxHeartbeats 1600000 in
/-- The body, piece after piece. -/
theorem wp_bodyP (c : Dev nD) (f : (cc0_stg2_0 : Ref sig .tc).ty.Contents (Elt F)) {Q : PUnit → sProp 𝕄} :
    iprop(Inv m K ∗ Pre c ∗ owing c (O₀ c) ∗ (xPts m c ∗ wPts m c) ∗ oPts c f)
      ⊢ iprop(((Post c ∗ owing c 0 ∗ (xPts m c ∗ wPts m c) ∗ oPts c (outAt m c)) -∗ Q ⟨⟩) -∗ WP c bodyP Q) := by
  rw [wp_bodyP_rest]
  unfold Pre kits restP
  rw [bigSep_seven (fun t => q4 (kit c t)), bigSep_six (fun t => q2 (kitC c t))]
  iintro ⟨#HI, ⟨#HR, Hpos, ⟨⟨K0, K1, K2, K3, K4, K5, K6⟩, C0, C1, C2, C3, C4, C5⟩, Hbt, Hbuf⟩, HO, Hxw, Hout⟩ Hk
  ihave Hpos := (kinds_split (fun k : Kd => posR c k 0)) $$ Hpos
  unfold byCh
  icases Hpos with ⟨Hpb, Hpc, Hp4⟩
  iapply (wp_seq c)
  iapply (wp_entryP m K c) $$ [HO Hbt Hpb Hbuf Hxw]
  · isplitr; · iexact HI
    isplitr; · iexact HR
    isplitl [HO]; · iexact HO
    isplitl [Hbt]; · iexact Hbt
    isplitl [Hpb]; · iexact Hpb
    isplitl [Hbuf] <;> iassumption
  iintro ⟨HO, Hpb, Hxw, Hs⟩
  ihave Hm := (mids_zero m c) $$ [K0 Hp4 Hs]
  · isplitr; · iexact HR
    isplitl [Hs]; · iexact Hs
    isplitl [K0] <;> iassumption
  iapply (wp_seq c)
  iapply (wp_firstP m K c) $$ [HO Hm]
  · isplitr; · iexact HI
    isplitl [HO] <;> iassumption
  iintro ⟨HO, Hs⟩
  iapply (wp_seq c)
  iapply (wp_tailN m K c 0 0 rfl) $$ [HO Hxw Hs]
  · isplitr; · iexact HI
    isplitl [HO]; · iexact HO
    isplitl [Hxw] <;> iassumption
  iintro ⟨HO, Hxw, Hs⟩
  iapply (wp_seq c)
  iapply (wp_freeP m K c (t := 0) (by decide)) $$ [HO C0 Hs]
  · isplitr; · iexact HI
    isplitl [HO]; · iexact HO
    isplitl [C0] <;> iassumption
  iintro ⟨HO, Hcr, Hch⟩
  have e0 : q2 (fun δ => iprop(posR (F := F) c (.cr δ 0) 0 ∗ posR c (.cr δ 1) 0)) ⊢ q2 (CrP c 0) := Entails.of_eq rfl
  ihave Hpc := e0 $$ Hpc
  have es : iprop(owing c (oRest c (0 + 1)) ∗ (xPts m c ∗ wPts m c) ∗ q2 (fun δ => cred (tallyAt (cell c (.cr δ (sl 0))) (0 + 2) 1)) ∗ q2 (CrP c 0) ∗ q4 (Ch c 0))
    ⊢ St m c 0 := Entails.of_eq rfl
  ihave HS := es $$ [HO Hxw Hcr Hpc Hch]
  · isplitl [HO]; · iexact HO
    isplitl [Hxw]; · iexact Hxw
    isplitl [Hcr]; · iexact Hcr
    isplitl [Hpc] <;> iassumption
  iapply (wp_seq c)
  iapply (wp_stepN m K c 0 0 rfl (by decide)) $$ [HS K1 C1]
  · isplitr; · iexact HI
    isplitl [HS]; · iexact HS
    isplitl [K1] <;> iassumption
  iintro HS
  iapply (wp_seq c)
  iapply (wp_stepN m K c 1 1 rfl (by decide)) $$ [HS K2 C2]
  · isplitr; · iexact HI
    isplitl [HS]; · iexact HS
    isplitl [K2] <;> iassumption
  iintro HS
  iapply (wp_seq c)
  iapply (wp_stepN m K c 2 2 rfl (by decide)) $$ [HS K3 C3]
  · isplitr; · iexact HI
    isplitl [HS]; · iexact HS
    isplitl [K3] <;> iassumption
  iintro HS
  iapply (wp_seq c)
  iapply (wp_stepN m K c 3 3 rfl (by decide)) $$ [HS K4 C4]
  · isplitr; · iexact HI
    isplitl [HS]; · iexact HS
    isplitl [K4] <;> iassumption
  iintro HS
  iapply (wp_seq c)
  iapply (wp_stepN m K c 4 4 rfl (by decide)) $$ [HS K5 C5]
  · isplitr; · iexact HI
    isplitl [HS]; · iexact HS
    isplitl [K5] <;> iassumption
  iintro HS
  unfold St
  icases HS with ⟨HO, Hxw, Hcr, Hpc, Hch⟩
  iapply (wp_seq c)
  iapply (wp_headP m K c (t := 5) (by decide)) $$ [HO Hcr Hpc Hch K6]
  · isplitr; · iexact HI
    isplitl [HO]; · iexact HO
    isplitl [Hcr]; · iexact Hcr
    isplitl [Hpc]; · iexact Hpc
    isplitl [Hch] <;> iassumption
  iintro ⟨HO, Hpc, Hs⟩
  iapply (wp_seq c)
  iapply (wp_tailN m K c 6 6 rfl) $$ [HO Hxw Hs]
  · isplitr; · iexact HI
    isplitl [HO]; · iexact HO
    isplitl [Hxw] <;> iassumption
  rw [oTail_last]
  iintro ⟨HO, Hxw, Hs⟩
  iapply (wp_exitP m K c f) $$ [HO Hout Hs]
  · isplitr; · iexact HI
    isplitl [HO]; · iexact HO
    isplitl [Hout] <;> iassumption
  iintro ⟨HO, Hout, Hf⟩
  iapply Hk
  isplitl [Hpb Hpc Hf]
  · iapply (post_intro c)
    isplitl [Hpb]; · iexact Hpb
    isplitl [Hpc] <;> iassumption
  isplitl [HO]; · iexact HO
  isplitl [Hxw] <;> iassumption

end Cert.KernelIdeal.RingPf
-- ==== Proof.Ideal.Oblig.lean ====
/-
# The obligation of the body

The pipeline's data: what the body starts from and leaves, and that it does so.
-/
module

public import proofs.«01_k».proof.Proof.Ideal.Body
public import proofs.«01_k».proof.Proof.Gen.KernelIdeal.Launch
public import Idealize.ShloMosaic.Lib.Pipeline.Launch
public import Idealize.ShloMosaic.Lib.Tactic

@[expose] public section

noncomputable section

namespace Cert.KernelIdeal.RingPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The data -/

/-- The memory at launch: any contents, all counters zero. -/
def s₀ : MemSt nD τ sig (Elt F) := ⟨m, fun _ => 0, ρ⟩

/-- The grid has one point. -/
theorem cfg0_N : cfg0.N = 1 := by decide
/-- That point. -/
def t₀ : Fin cfg0.N := ⟨0, by rw [cfg0_N]; decide⟩
/-- There is no other point. -/
theorem fin_N (t : Fin cfg0.N) : t = t₀ := by
  obtain ⟨t, ht⟩ := t; have := cfg0_N; exact Fin.ext (by simp only [t₀]; omega)

/-- What a device starts from besides its buffers. -/
def start (c : Dev nD) : sProp 𝕄 :=
  iprop(∃ K, Inv m K ∗ Reach ∗ bigSep Finset.univ (fun k : Kd => posR c k 0) ∗ kits c ∗ barT c)
/-- Before the body: that, and both communication buffers. -/
def Φ₀ (c : Dev nD) : sProp 𝕄 := iprop(start m c ∗ q2 (bufAny c))
/-- After it: the communication buffers, and every cell closed at zero. -/
def Φ₁ (c : Dev nD) : sProp 𝕄 := iprop(bigSep Finset.univ (fun k : Kd => semVal (cell c k) 0) ∗ q2 (bufAny c))

/-- The proof's data for the launch: the windows' arrays at the start, the staged contents after the body, the states before and after it, and what is owed. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xS m c
    | ⟨1, _⟩ => wS m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- A resource for each of the three windows, listed. -/
theorem bigSep_W (Φ : Fin cfg0.W → sProp 𝕄) : bigSep Finset.univ Φ = iprop(Φ (0 : Fin 3) ∗ Φ (1 : Fin 3) ∗ Φ (2 : Fin 3)) := bigSep_W0 Φ

/-- The block of `x` is fetched. -/
theorem fetch_0 (t : Fin cfg0.N) : (cfg0.win (0 : Fin 3)).fetch t = true := by rw [fin_N t]; rfl
/-- The block of `w` is fetched. -/
theorem fetch_1 (t : Fin cfg0.N) : (cfg0.win (1 : Fin 3)).fetch t = true := by rw [fin_N t]; rfl

omit [FloatOps F] in
/-- Owning a whole buffer at `X` is holding it at contents equal to `X`. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is run from. -/
def bodyPre (c : Dev nD) : sProp 𝕄 :=
  iprop(Φ₀ m c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What it is to leave. -/
def bodyPost (c : Dev nD) : sProp 𝕄 :=
  iprop(Φ₁ c ∗ (dats m ρ 0 c).owesAt 0 t₀.succ ∗ stg c cc0_stg0_0 (xS m c) ∗ stg c cc0_stg1_0 (wS m c) ∗ stg c cc0_stg2_0 (outAt m c))

/-- A cell past its last duty closes, its counter at zero. -/
theorem close_one (K : Dev nD × Kd → ℕ) (c : Dev nD) (k : Kd) :
    iprop(Inv m K ∗ posR c k (finR k)) ⊢ |={Set.univ}=> semVal (cell c k) 0 := by
  unfold posR
  iintro ⟨#HI, Hp, -⟩
  iapply (Rounds.cell_close ER (ringRd m) (Set.mem_univ (K (c, k))) (fun h => h) (R := finR k)
    (fun r hr => (duties_cell m c k r).trans (finR_past k r hr)))
  isplitr; · iapply (inv_at m K c k); iexact HI
  iexact Hp

/-- All of a device's cells close. -/
theorem close_all (K : Dev nD × Kd → ℕ) (c : Dev nD) :
    iprop(Inv m K ∗ bigSep Finset.univ (fun k : Kd => posR c k (finR k))) ⊢ |={Set.univ}=> bigSep Finset.univ (fun k : Kd => semVal (cell c k) 0) :=
  ((sep_mono_left (BI.bigSep_of_persistent Finset.univ (Inv m K))).trans
    (by rw [← bigSep_sep']; exact bigSep_mono fun k _ => close_one m K c k)).trans (bigSep_fupd _ _)

/-- An update in the postcondition is absorbed. -/
theorem wp_absorb (c : Dev nD) {α : Type} (p : Prog (TpuEff nD τ sig (Elt F) Λ₀ .tc) α) (Q : α → sProp 𝕄) :
    WP c p (fun a => iprop(|={Set.univ}=> Q a)) ⊢ WP c p Q := wp_fupd _ _ _ p Q

/-- The body from `bodyPre` to `bodyPost`. -/
theorem sound_body (c : Dev nD) : bodyPre m ρ c ⊢ WP c bodyP (fun _ => bodyPost m ρ c) := by
  unfold bodyPre Φ₀ start
  iintro ⟨⟨⟨%K, #HI, #HR, Hp, Hk, Hb⟩, Hbuf⟩, Ho, ⟨%d0, %g0, %hg0, Hx⟩, ⟨%d1, %g1, %hg1, Hw⟩, ⟨%d2, %g2, %hg2, Hout⟩⟩
  have hx : g0 = xS m c := by rw [hg0]; unfold Dat.before; rw [if_pos (fetch_0 t₀)]; rfl
  have hw : g1 = wS m c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = O₀ c from rfl]
  have ha := wp_absorb c bodyP (fun _ => bodyPost m ρ c)
  iapply ha
  have h := wp_bodyP m K c g2 (Q := fun _ => iprop(|={Set.univ}=> bodyPost m ρ c))
  iapply h $$ [Hp Hk Hb Hbuf HO Hx Hw Hout]
  · isplitr; · iexact HI
    unfold Pre owing xPts wPts oPts
    isplitl [Hp Hk Hb Hbuf]
    · isplitr; · iexact HR
      isplitl [Hp]; · iexact Hp
      isplitl [Hk]; · iexact Hk
      isplitl [Hb] <;> iassumption
    isplitl [HO]; · iexists W; iexact HO
    isplitl [Hx Hw]; · isplitl [Hx] <;> iassumption
    iexact Hout
  unfold Post owing xPts wPts oPts
  iintro ⟨⟨Hp, Hbuf⟩, ⟨%W', HO⟩, ⟨Hx, Hw⟩, Hout⟩
  imod (close_all m K c) $$ [Hp] with Hz
  · isplitr; · iexact HI
    iexact Hp
  imodintro
  unfold bodyPost Φ₁ Dat.owesAt Pipeline.owesWithin
  rw [show (dats m ρ 0 c).owed t₀.succ = 0 from rfl]
  isplitl [Hz Hbuf]; · isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 65536 in
/-- The body obligation on device `c`. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre m ρ c ⊢ WP c (cc0_body (F := F) xM (hstage0_0 0) wM (hstage0_1 0) oM (hstage0_2 0) (Memref.whole cc0_scratch0) (Memref.isWhole_whole _)
    (Memref.whole cc0_scratch1) (Memref.isWhole_whole _) cc0_scratch2 cc0_scratch3 cc0_scratch4 cc0_scratch5 cc0_scratch6 cc0_scratch7) (fun _ => bodyPost m ρ c)
  have e := body_eq (F := F)
  rw [e]
  exact sound_body m ρ c

end Cert.KernelIdeal.RingPf
-- ==== Proof.Ideal.Launch.lean ====
/-
# The launch

The cells' ghost state is minted per device, the tokens of the duties go to the devices that pay them, the credit for
what the devices owe goes to those that wait for it; with the body's obligation this gives the run.
-/
module

public import proofs.«01_k».proof.Proof.Ideal.Oblig
public import proofs.«01_k».proof.Proof.Gen.KernelIdeal.Launch
public import Idealize.ShloMosaic.Lib.Pipeline.Launch
public import Idealize.ShloMosaic.Lib.Pipeline.CollectiveSegs
public import Idealize.ShloMosaic.Lib.Tactic

@[expose] public section

noncomputable section

namespace Cert.KernelIdeal.RingPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The tokens -/

/-- The duties at one device's cells: the barrier's two; a credit for each of six steps and direction; a send and a receive
    for each of seven steps, direction and half. -/
abbrev Tk : Type := Bool ⊕ ((Fin 6 × Bool) ⊕ ((Fin 7 × Bool × Fin 2) ⊕ (Fin 7 × Bool × Fin 2)))

/-- A duty's cell, round and name. -/
def tkKey : Tk → Kd × ℕ × Bool
  | .inl d => (.bar, 0, d)
  | .inr (.inl (s, δ)) => (.cr δ (sl s.val), s.val / 2, false)
  | .inr (.inr (.inl (s, δ, j))) => (.sd δ (sl s.val) j, s.val / 2, false)
  | .inr (.inr (.inr (s, δ, j))) => (.rv δ (sl (s.val + 1)) j, s.val / 2, false)

set_option maxRecDepth 20000 in
/-- Different duties differ in cell, round or name. -/
theorem tkKey_injective : Function.Injective tkKey := by decide +kernel

/-- The credit that comes with a duty: the units its payer owes at launch. -/
def tkCred (c : Dev nD) : Tk → CellTallies nD τ sig ℕ
  | .inl _ => tallyAt (cell c .bar) 1 1
  | .inr (.inl (s, δ)) => tallyAt (cell c (.cr δ (sl s.val))) (s.val + 2) 1
  | .inr (.inr (.inl _)) => 0
  | .inr (.inr (.inr (s, δ, j))) => tallyAt (cell c (.rv δ (sl (s.val + 1)) j)) (s.val + 2) N

/-- A direction's step along the ring. -/
def ringE (δ : Bool) : Dev nD ≃ Dev nD := ⟨tg δ, fr δ, fr_tg δ, tg_fr δ⟩

/-- Whose cell a device's own duty of a kind is at. -/
def mv : Tk → (Dev nD ≃ Dev nD)
  | .inl d => ringE (!d)
  | .inr (.inl (_, δ)) => (ringE δ).symm
  | .inr (.inr (.inl _)) => Equiv.refl _
  | .inr (.inr (.inr (_, δ, _))) => ringE δ

/-- All devices' duties, each taken to the device it is paid at. -/
def mvE : Dev nD × Tk ≃ Dev nD × Tk where
  toFun x := (mv x.2 x.1, x.2)
  invFun x := ((mv x.2).symm x.1, x.2)
  left_inv x := by simp
  right_inv x := by simp

/-- The token of a duty at device `c`. -/
def tok (c : Dev nD) (t : Tk) : sProp 𝕄 := dutyTok ER (cell c (tkKey t).1) (tkKey t).2.1 (tkKey t).2.2

omit [FloatOps F] in
/-- All duties' tokens, sorted by the device that pays instead of the device that is paid. -/
theorem tok_around : (bigSep Finset.univ fun c : Dev nD => bigSep Finset.univ fun t : Tk => (tok c t : sProp 𝕄))
    = bigSep Finset.univ fun c : Dev nD => bigSep Finset.univ fun t : Tk => tok (mv t c) t := by
  rw [← bigSep_univ_prod (fun x : Dev nD × Tk => (tok x.1 x.2 : sProp 𝕄)), bigSep_univ_equiv mvE, bigSep_univ_prod]
  rfl

/-! ## What is owed, summed -/

/-- What a device owes at the start is the credit of the duties it pays. -/
theorem owed_eq (d : Dev nD) : O₀ d = ∑ t : Tk, tkCred (mv t d) t := by
  rw [Fintype.sum_sum_type, Fintype.sum_sum_type, Fintype.sum_sum_type]
  have hr : oRest d 0 = ∑ s : Fin 7, oStep d s.val := by
    unfold oRest; rw [← Finset.range_eq_Ico, Finset.sum_range]
  have hc : ∑ s : Fin 7, oCred d s.val = ∑ s : Fin 6, (oCr d s.val false + oCr d s.val true) := by
    rw [Fin.sum_univ_castSucc]
    have h6 : oCred d (Fin.last 6).val = 0 := if_neg (by decide)
    rw [h6, add_zero]
    exact Finset.sum_congr rfl fun s _ => if_pos s.isLt
  unfold O₀
  rw [hr]
  unfold oStep
  simp only [Finset.sum_add_distrib] at hc ⊢
  rw [hc]
  simp only [Fintype.sum_prod_type, Fintype.sum_bool, Fin.sum_univ_two, Finset.sum_add_distrib, tkCred, mv, Finset.sum_const_zero, ringE, Equiv.coe_fn_mk, Equiv.coe_fn_symm_mk]
  unfold oSend oCr oBar
  simp only [Bool.not_true, Bool.not_false]
  abel

/-- What all devices owe is the credit of all duties, sorted by the device that is paid. -/
theorem owed_sum : (∑ d : Dev nD, O₀ d) = ∑ d : Dev nD, ∑ t : Tk, tkCred d t := by
  rw [Finset.sum_congr rfl fun d _ => owed_eq d, Finset.sum_comm, Finset.sum_comm (s := Finset.univ (α := Dev nD))]
  exact Finset.sum_congr rfl fun t _ => Equiv.sum_comp (mv t) (fun d => tkCred d t)

/-- The credit of a device's own duties is at its own cells only. -/
theorem tkCred_own (d : Dev nD) (g : GSem nD τ sig) (h : (∑ t : Tk, tkCred d t) g ≠ 0) : g.1 = (d.tc : Thread nD τ) := by
  by_contra hg
  refine h ?_
  rw [Finset.sum_apply]
  refine Finset.sum_eq_zero fun t _ => ?_
  have hne : ∀ (k : Kd), g ≠ cell d k := fun k e => hg (congrArg Prod.fst e)
  rcases t with _ | ⟨s, δ⟩ | ⟨s, δ, j⟩ | ⟨s, δ, j⟩
  · exact tallyAt_ne_cell (hne _) _ _
  · exact tallyAt_ne_cell (hne _) _ _
  · rfl
  · exact tallyAt_ne_cell (hne _) _ _

omit [FloatOps F] in
/-- The credit a device is dealt: its own cells' duties'. -/
theorem creds (c : Dev nD) : (Pipeline.launchCred O₀ c : sProp 𝕄) = bigSep Finset.univ fun t : Tk => cred (tkCred c t) := by
  classical
  rw [Pipeline.launchCred_of_sum O₀ (fun d => ∑ t : Tk, tkCred d t) owed_sum tkCred_own c, Pipeline.cred_finsetSum]

omit [FloatOps F] in
/-- A resource for both directions, listed. -/
theorem over_bool (Φ : Bool → sProp 𝕄) : bigSep Finset.univ Φ = q2 Φ := bigSep_univ_eq_bigSepL [true, false] (by decide) (by decide) Φ
omit [FloatOps F] in
/-- A resource for every direction and half, listed. -/
theorem over_ch (Φ : Bool × Fin 2 → sProp 𝕄) : bigSep Finset.univ Φ = q4 (fun δ j => Φ (δ, j)) :=
  bigSep_univ_eq_bigSepL [(true, 0), (false, 0), (true, 1), (false, 1)] (by decide) (by decide) Φ

omit [FloatOps F] in
/-- A resource for every duty, sorted by kind. -/
theorem over_tk (Φ : Tk → sProp 𝕄) : bigSep Finset.univ Φ = iprop(q2 (fun d => Φ (.inl d))
    ∗ bigSep Finset.univ (fun x : Fin 6 × Bool => Φ (.inr (.inl x)))
    ∗ bigSep Finset.univ (fun x : Fin 7 × Bool × Fin 2 => Φ (.inr (.inr (.inl x))))
    ∗ bigSep Finset.univ (fun x : Fin 7 × Bool × Fin 2 => Φ (.inr (.inr (.inr x))))) := by
  rw [bigSep_univ_sum, bigSep_univ_sum, bigSep_univ_sum, over_bool]; rfl

omit [FloatOps F] in
/-- Tokens and credit are what the body's steps take. -/
theorem kits_intro (c : Dev nD) :
    iprop((bigSep Finset.univ fun t : Tk => tok (mv t c) t) ∗ bigSep Finset.univ fun t : Tk => cred (tkCred c t)) ⊢ iprop(kits c ∗ barT c : sProp 𝕄) := by
  have hk : (bigSep Finset.univ (fun t : Fin 7 => q4 (kit (F := F) c t.val))) = bigSep Finset.univ fun x : Fin 7 × Bool × Fin 2 => kit c x.1.val x.2.1 x.2.2 := by
    rw [bigSep_univ_prod]; exact bigSep_congr fun t _ => (over_ch (fun x => kit (F := F) c t.val x.1 x.2)).symm
  have hc : (bigSep Finset.univ (fun t : Fin 6 => q2 (kitC (F := F) c t.val))) = bigSep Finset.univ fun x : Fin 6 × Bool => kitC c x.1.val x.2 := by
    rw [bigSep_univ_prod]; exact bigSep_congr fun t _ => (over_bool (fun δ => kitC (F := F) c t.val δ)).symm
  unfold kits barT
  rw [hk, hc]
  unfold kit kitC
  simp only [bigSep_sep']
  have hb : q2 (fun d => tok (F := F) (mv (.inl d) c) (.inl d))
    = iprop(dutyTok ER (cell (tg false c) .bar) 0 true ∗ dutyTok ER (cell (tg true c) .bar) 0 false) := rfl
  rw [over_tk, over_tk, ← tallyAt_add _ _ 1 1, hb]
  unfold q2
  iintro ⟨⟨⟨B1, B2⟩, C, S, R⟩, ⟨⟨K1, K2⟩, KC, -, KR⟩⟩
  isplitl [C S R KC KR]
  · isplitl [S R KR]
    · isplitl [R]; · iexact R
      isplitl [S]; · iexact S
      iexact KR
    · isplitl [C]; · iexact C
      iexact KC
  · isplitl [B1]; · iexact B1
    isplitl [B2]; · iexact B2
    iapply (cred_add _ _).2
    isplitl [K1]; · iexact K1
    iexact K2

/-! ## Minting -/

/-- A cell of a device, as the launch numbers them. -/
def kc (i : Dev nD × Kd) : GSem nD τ sig := cell i.1 i.2
/-- Different numbers are different cells. -/
theorem kc_injective : Function.Injective kc := by
  rintro ⟨c, k⟩ ⟨c', k'⟩ h
  have h1 : c = c' := congrArg (fun g : GSem nD τ sig => g.1.1) h
  have h2 : k = k' := semOf_injective (congrArg Prod.snd h)
  rw [h1, h2]
/-- All cells of the ring. -/
def ringCells : Finset (GSem nD τ sig) := Finset.univ.map ⟨kc, kc_injective⟩

/-- A duty at a device, as the launch numbers them. -/
def tokOf (i : Dev nD × Tk) : GSem nD τ sig × ℕ × Bool := (cell i.1 (tkKey i.2).1, (tkKey i.2).2)
/-- Different numbers are different duties. -/
theorem tokOf_injective : Function.Injective tokOf := by
  rintro ⟨c, t⟩ ⟨c', t'⟩ h
  have h1 : c = c' := congrArg (fun x : GSem nD τ sig × ℕ × Bool => x.1.1.1) h
  have h2 : (tkKey t).1 = (tkKey t').1 := semOf_injective (congrArg (fun x : GSem nD τ sig × ℕ × Bool => x.1.2) h)
  have h3 : (tkKey t).2 = (tkKey t').2 := congrArg (fun x : GSem nD τ sig × ℕ × Bool => x.2) h
  rw [h1, tkKey_injective (Prod.ext h2 h3)]
/-- All duties of the ring. -/
def ringToks : Finset (GSem nD τ sig × ℕ × Bool) := Finset.univ.map ⟨tokOf, tokOf_injective⟩

/-- The ghost state the launch mints: the pipeline's, and the ring's. -/
def u₀ : UU := (initOf (Pipeline.cells cfgs cellOf_inj) (Pipeline.launchToks cfgs cellOf_inj), initOf ringCells ringToks)

/-- A device's own duties' tokens. -/
def toks (c : Dev nD) : sProp 𝕄 := bigSep Finset.univ fun t : Tk => tok c t

/-- A device's share of what is minted. -/
def G (c : Dev nD) : sProp 𝕄 :=
  iprop((bigSep Finset.univ fun k : Kd => roundState ER (ringRd m) (cell c k) 0)
    ∗ ((bigSep Finset.univ fun k : Kd => atPos ER (cell c k) 0 ∅ 0) ∗ bigSep Finset.univ fun k : Kd => reached ER (cell c k) 0) ∗ toks c)

/-- What a device starts from of it, the cells' invariants allocated and the tokens dealt. -/
def G' (c : Dev nD) : sProp 𝕄 :=
  iprop(∃ K : Dev nD × Kd → ℕ, (bigSep Finset.univ (fun i : Dev nD × Kd => cellInv ER (ringRd m) (K i) (cell i.1 i.2)) ∗ Reach)
    ∗ bigSep Finset.univ (fun k : Kd => posR c k 0) ∗ bigSep Finset.univ fun t : Tk => tok (mv t c) t)

/-- The ring's minted ghost state is every device's share of it. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kd => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: all but the barrier. -/
abbrev osem : Fin 20 → SemLoc sig := fun i => semOf (Kd.all.get ⟨i.val + 1, Nat.succ_lt_succ i.isLt⟩)

set_option maxRecDepth 20000 in
/-- The listed semaphores are the kernel's own, each once. -/
theorem ownSemFacts : Pipeline.OwnSemFacts cfg0.spec osem := by decide +kernel

omit [FloatOps F] in
/-- The only counter that outlives the kernel is the barrier's. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
/-- All cells' counters at zero are the barrier's and the kernel's own at zero. -/
theorem sems0_eq (c : Dev nD) :
    (bigSep Finset.univ fun k : Kd => semVal (cell c k) 0 : sProp 𝕄)
      = iprop(unscopedSems0 c ∗ Pipeline.ownSems0 (Ix := ℕ) (Name := ℕ) (U := UU) (Lvl := ℕ) (Val := Elt F) (τ := τ) osem c) := by
  rw [kinds_list, unscopedSems0_eq, Pipeline.ownSems0_eq_of_list c osem
    [0, 1, 2, 3, 4, 5, 6, 7, 8, 9, 10, 11, 12, 13, 14, 15, 16, 17, 18, 19] (by decide +kernel) (by decide +kernel)]
  rfl

/-- A device's counters at zero and its share of the ghost state become its cells' invariants, positions and tokens. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Kd => iprop(∃ κ : ℕ, cellInv ER (ringRd m) κ (cell c k)))
          ∗ ((bigSep Finset.univ fun k : Kd => atPos ER (cell c k) 0 ∅ 0) ∗ bigSep Finset.univ fun k : Kd => reached ER (cell c k) 0) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Kd => semVal (cell c k) 0) ∗ bigSep Finset.univ fun k : Kd => roundState ER (ringRd m) (cell c k) 0)
      ⊢ (|={Set.univ}=> bigSep Finset.univ fun k => iprop(∃ κ : ℕ, cellInv ER (ringRd m) κ (cell c k)) : sProp 𝕄) from by
        rw [← bigSep_sep']
        exact (bigSep_mono fun k _ => (Rounds.body_intro ER (ringRd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A persistent fact goes to every member. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants, positions and tokens, dealt so that each device has all invariants and the tokens it pays with. -/
theorem regroup :
    (bigSep Finset.univ fun c : Dev nD => iprop((bigSep Finset.univ fun k : Kd => iprop(∃ κ : ℕ, cellInv ER (ringRd m) κ (cell c k)))
          ∗ ((bigSep Finset.univ fun k : Kd => atPos ER (cell c k) 0 ∅ 0) ∗ bigSep Finset.univ fun k : Kd => reached ER (cell c k) 0) ∗ toks c) : sProp 𝕄)
      ⊢ bigSep Finset.univ (G' m) := by
  rw [bigSep_sep', bigSep_sep', bigSep_sep',
    ← bigSep_univ_prod (fun i : Dev nD × Kd => iprop(∃ κ : ℕ, cellInv ER (ringRd m) κ (cell i.1 i.2))),
    ← bigSep_univ_prod (fun i : Dev nD × Kd => (reached ER (cell i.1 i.2) 0 : sProp 𝕄))]
  iintro ⟨HI, ⟨Hat, #HR⟩, Htok⟩
  ihave HK := (BI.bigSep_exists_pi Finset.univ (fun (i : Dev nD × Kd) (κ : ℕ) => (cellInv ER (ringRd m) κ (cell i.1 i.2) : sProp 𝕄))) $$ HI
  icases HK with ⟨%K, #HI⟩
  unfold toks
  ihave Htk := (Entails.of_eq (tok_around (F := F))) $$ Htok
  iapply (bigSep_beside (R := iprop(bigSep Finset.univ (fun i : Dev nD × Kd => cellInv ER (ringRd m) (K i) (cell i.1 i.2)) ∗ Reach))
    (Φ := fun c : Dev nD => iprop((bigSep Finset.univ fun k : Kd => atPos ER (cell c k) 0 ∅ 0) ∗ bigSep Finset.univ fun t : Tk => tok (mv t c) t))
    (fun c _ => by
      unfold G' posR
      rw [bigSep_sep']
      iintro ⟨⟨#HI, #HR⟩, Hat, Ht⟩
      iexists K
      isplitr
      · isplitr; · iexact HI
        iexact HR
      isplitr [Ht]
      · isplitl [Hat]; · iexact Hat
        iapply ((BI.bigSep_of_persistent Finset.univ Reach).trans (bigSep_mono fun k _ => reach_at c k)); iexact HR
      iexact Ht))
  isplitr
  · isplitr; · iexact HI
    unfold Reach; iexact HR
  · rw [bigSep_sep']
    isplitl [Hat] <;> iassumption

/-- From counters at zero and the minted ghost state to what every device starts from. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions -/

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, #Hlev, Hcr, -, %K, ⟨#HI, #HR⟩, Hp, Ht⟩
  ihave Hc := (Entails.of_eq (creds (F := F) c)) $$ Hcr
  ihave Hk := (kits_intro (F := F) c) $$ [Ht Hc]
  · isplitl [Ht] <;> iassumption
  icases Hk with ⟨Hk, Hb⟩
  imodintro
  unfold start Inv
  isplitl
  · iexists K
    isplitr
    · isplitr; · iexact HI
      iexact Hlev
    isplitr; · iexact HR
    isplitl [Hp]; · iexact Hp
    isplitl [Hk] <;> iassumption
  · iempintro

omit [FloatOps F] in
/-- The scratch buffers are the two communication buffers. -/
theorem bufs_eq (c : Dev nD) : (Pipeline.scopedRest (Ix := ℕ) (Name := ℕ) (U := UU) (Lvl := ℕ) (Val := Elt F) cfg0.spec c : sProp 𝕄) = q2 (bufAny c) :=
  (scopedRest0_eq c).trans rfl

/-- That and the scratch buffers are the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, bufs_eq]
  unfold Φ₀
  iintro ⟨Hs, -, Hr⟩
  isplitl [Hs] <;> iassumption

/-- The state after the body gives back all counters at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq]
  unfold Φ₁
  rw [sems0_eq]
  iintro ⟨⟨Hu, Ho⟩, Hr⟩
  isplitl [Hu]; · iexact Hu
  isplitl [Ho] <;> iassumption

/-- The pipeline's own waits are below all that is owed. -/
theorem waits (c : Dev nD) : (levAts L lv : sProp 𝕄) ⊢ Pipeline.cellsWaits cfgs (dats m ρ) 0 0 c :=
  Pipeline.cellsWaits_intro cfgs (dats m ρ) 0 0 c fun w s t =>
    mayWait (by
      rcases t with ⟨_ | _, ht⟩
      · exact above_O₀ c
      · exact above_zero 0) (by decide) c _

/-- Every window's array is held whole. -/
theorem share_eq (c : Dev nD) (w : Fin cfg0.W) : (dats m ρ 0 c).share w = fullShare := by unfold Dat.share; split <;> rfl

/-! ## The run -/

/-- What the windows' arrays hold after the run. -/
def finalA (c : Dev nD) (w : Fin cfg0.W) : Buf (Elt F) ((cfg0.win w).arr.view.loc (c : Thread nD τ)) := (dats m ρ 0 c).arrAt w cfg0.N

/-- Every device's windows' arrays are at `finalA`. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with all counters zero every weakly fair execution ends, with every device's windows' arrays at
    `finalA` and all counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of `x` is unchanged. -/
theorem finalA_x (c : Dev nD) : finalA m ρ c (0 : Fin 3) = m ((c : Thread nD τ).loc main_arg0) := (dats (F := F) m ρ 0 c).arrAt_in (0 : Fin 3) rfl _
/-- The array of `w` is unchanged. -/
theorem finalA_w (c : Dev nD) : finalA m ρ c (1 : Fin 3) = m ((c : Thread nD τ).loc main_arg1) := (dats (F := F) m ρ 0 c).arrAt_in (1 : Fin 3) rfl _

end Cert.KernelIdeal.RingPf
-- ==== Proof.Value.lean ====
/-
# What the ring computes, in exact arithmetic

Over the extended reals the kernel's result on device `c` is, at row `i` and column `b`, the sum over all eight devices
`e` of the product of `e`'s block of `x` (row `512 * c + i`) with `e`'s block of `w` (column `b`): every direction of the
ring passes once through every device, each adding its own product of the rows that end on `c`. Eight sums over 512
positions are one over 4096, which is the product of the whole arrays.
-/
module

public import proofs.«01_k».proof.Proof.Ideal.Launch
public import Idealize.ShloMosaic.Lib.MatmulPlain
public import Idealize.ShloMosaic.Lib.StackMember
public import Idealize.ShloMosaic.Lib.Pointwise.Sums
public import Idealize.ShloMosaic.Lib.Layout
public import proofs.«01_k».proof.Proof.Gen.ReferenceIdeal.Run

@[expose] public section

noncomputable section

namespace Cert.KernelIdeal.RingPf

open Cert.KernelIdeal Cert.KernelIdeal.Gen

open Idealize.ShloMosaic hiding ix2 ix3 eq_ix2
open Idealize.ShloMosaic.TcCoe
open Idealize.ShloMosaic.ValueIdx
open Idealize.SL.Sem
open scoped BigOperators

/-! ## The blocks the windows stage -/

section Windows
variable {F : FTy → Type} [FloatOps F]
variable (m : (ℓ : Loc nD τ sig) → Buf (Elt F) ℓ) (ρ : Dev nD → PrngReg)

/-- The staged `x` is the device's argument. -/
theorem xS_eq (c : Dev nD) : xS m c = m ((c : Thread nD τ).loc main_arg0) :=
  Memref.read_access_unit_zero (Elt F) main_arg0 (funext fun a => by fin_cases a <;> decide) (fun a => by fin_cases a <;> decide) _

/-- The staged `w` is the device's argument. -/
theorem wS_eq (c : Dev nD) : wS m c = m ((c : Thread nD τ).loc main_arg1) :=
  Memref.read_access_unit_zero (Elt F) main_arg1 (funext fun a => by fin_cases a <;> decide) (fun a => by fin_cases a <;> decide) _

/-- The result's array ends at what the body left in its staging buffer. -/
theorem finalA_o (c : Dev nD) : finalA m ρ c (2 : Fin 3) = outAt m c := by
  have h : (win0_2.blk (0 : Fin 1)).view.read (Elt F) (finalA m ρ c (2 : Fin 3)) = outAt m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 (funext fun a => by fin_cases a <;> decide) (fun a => by fin_cases a <;> decide) _).symm.trans h

end Windows

/-! ## One device's product -/

variable (m : (ℓ : Loc nD τ sig) → Buf (Elt Ideal) ℓ)

/-- The staged blocks as arrays of extended reals. -/
def xE (e : Dev nD) : FVec Ideal S4096x512 .bf16 := xS m e
def wE (e : Dev nD) : FVec Ideal S512x8192 .bf16 := wS m e

/-- Device `e`'s share of the whole product's entry: its 512 positions of row `r` of `x` and column `b` of `w`. -/
def part (e : Dev nD) (r : Fin 4096) (b : Fin 8192) : EReal :=
  ∑ k : Fin 512, xE m e (ix2 r k) * wE m e (ix2 k b)

/-- A loaded block of `x` at an index. -/
theorem xAt_apply (c : Dev nD) (o : Fin 2 → Nat) (h : ∀ a, o a + S256x512.size a ≤ S4096x512.size a) (R : Nat) (ho : o = ![R, 0])
    (a : Fin 256) (k : Fin 512) (r : Fin 4096) (hr : r.val = R + a.val) :
    xAt m c o h (ix2 a k) = xE m c (ix2 r k) := by
  subst ho
  unfold xAt
  rw [View.readAt_rect]
  refine congrArg (xE m c) (funext fun d => Fin.ext ?_)
  refine (ValueKit.rect_emb_unit_val _ _ _ _ d).trans ?_
  match d with
  | ⟨0, _⟩ => exact hr.symm
  | ⟨1, _⟩ => exact Nat.zero_add _

/-- A product at an index. -/
theorem mmP_apply (x : Vec Ideal S256x512 .bf16) (w : Vec Ideal S512x8192 .bf16) (a : Fin 256) (b : Fin 8192) :
    mmP x w (ix2 a b) = ∑ k : Fin 512, x (ix2 a k) * w (ix2 k b) := by
  have h := Ideal.matmul_plain_apply (M := 256) (K := 512) (N := 8192) (φ₁ := .bf16) (φ₂ := .bf16) none x w (constant S256x8192 .f32 0x00000000#32) a b
  unfold mmP k0_pay4 k0_pay5
  rw [shapeCast_self, shapeCast_self]
  refine Eq.trans h ?_
  show Ideal.ofBits .f32 0x00000000#32 + _ = _
  rw [Ideal.ofBits_zero_f32, zero_add]

/-- The first payload is the product with a unit axis in front. -/
theorem pay1_apply (x : Vec Ideal S256x512 .bf16) (w : Vec Ideal S512x8192 .bf16) (z : Fin 1) (a : Fin 256) (b : Fin 8192) :
    k0_pay1 x w (ix3 z a b) = mmP x w (ix2 a b) := by
  unfold k0_pay1 mmP k0_pay4 k0_pay5
  refine (shapeCast_addUnit_apply ![256, 8192] _ _ _).trans ?_
  refine congrArg _ (eq_ix2 _)

/-- Half `j` of a block at an index. -/
theorem half_apply (j : Fin 2) (v : FVec Ideal S1x256x8192 .bf16) (z : Fin 1) (r : Fin 128) (b : Fin 8192) (a : Fin 256) (ha : a.val = 128 * j.val + r.val) :
    half j v (ix3 z r b) = v (ix3 z a b) := by
  unfold half
  refine congrArg v (funext fun d => Fin.ext ?_)
  refine (ValueKit.rect_emb_unit_val _ _ _ _ d).trans ?_
  match d with
  | ⟨0, _⟩ => exact Nat.zero_add _
  | ⟨1, _⟩ => exact ha.symm
  | ⟨2, _⟩ => exact Nat.zero_add _

/-- The last sum at an index. -/
theorem outP_apply (j : Fin 2) (P : FVec Ideal S256x8192 .f32) (v : Vec Ideal S1x128x8192 .bf16) (r : Fin 128) (b : Fin 8192) (a : Fin 256) (ha : a.val = 128 * j.val + r.val) :
    outP j P v (ix2 r b) = v (ix3 0 r b) + P (ix2 a b) := by
  have e1 : shapeCast S128x8192 v shapeCasts_S1x128x8192_S128x8192 (ix2 r b) = v (ix3 0 r b) := by
    refine (shapeCast_dropUnit_apply ![128, 8192] _ _ _).trans (congrArg v (funext fun d => ?_))
    match d with
    | ⟨0, _⟩ => rfl
    | ⟨1, _⟩ => rfl
    | ⟨2, _⟩ => rfl
  have e2 : ∀ h, extractStridedSlice S128x8192 ![128 * j.val, 0] P h (ix2 r b) = P (ix2 a b) := fun h => by
    refine extractStridedSlice_apply _ P h _ _ fun d => ?_
    match d with
    | ⟨0, _⟩ => exact ha
    | ⟨1, _⟩ => exact (Nat.zero_add _).symm
  match j with
  | 0 => exact congrArg₂ (· + ·) e1 (e2 slices_S256x8192_o0_0_S128x8192)
  | 1 => exact congrArg₂ (· + ·) e1 (e2 slices_S256x8192_o128_0_S128x8192)

/-- The rounded sum is the last sum with a unit axis in front: exact arithmetic rounds nothing. -/
theorem accP_apply (j : Fin 2) (P : FVec Ideal S256x8192 .f32) (v : Vec Ideal S1x128x8192 .bf16) (z : Fin 1) (r : Fin 128) (b : Fin 8192) :
    accP j P v (ix3 z r b) = outP j P v (ix2 r b) := by
  match j with
  | 0 => exact (shapeCast_addUnit_apply ![128, 8192] _ shapeCasts_S128x8192_S1x128x8192 (ix3 z r b)).trans (congrArg (k0_pay47 P v) (eq_ix2 _))
  | 1 => exact (shapeCast_addUnit_apply ![128, 8192] _ shapeCasts_S128x8192_S1x128x8192 (ix3 z r b)).trans (congrArg (k0_pay49 P v) (eq_ix2 _))

/-! ## Around the ring -/

/-- Row `r` of half `j` of direction `δ` of the result on device `T`, in the whole array. -/
def rowG (T : Dev nD) (δ : Bool) (j : Fin 2) (r : Fin 128) : Fin 4096 :=
  ⟨512 * T.val + rowO δ j + r.val, by
    have h1 := T.isLt; have h2 := r.isLt; have h3 := j.isLt
    have h4 : T.val < 8 := h1
    unfold rowO; cases δ <;> simp only <;> omega⟩

/-- The first product of direction `δ` is of the rows that end one device back. -/
theorem offI_eq (δ : Bool) (c : Dev nD) : offI δ c = ![512 * (fr δ c).val + rowO δ 0, 0] := by
  cases δ
  · exact k0_off2_eq c
  · exact k0_off1_eq c

/-- The product of direction `δ` at step `s` is of the rows that end `s + 2` devices back. -/
theorem offS_eq (δ : Bool) (c : Dev nD) (s : Fin 7) : offS δ c s = ![512 * ((fr δ)^[s.val + 2] c).val + rowO δ 0, 0] := by
  cases δ
  · refine (k0_off4_eq c s).trans ?_
    have h : (c.val + s.val + 2) % 8 = ((fr false)^[s.val + 2] c).val := by revert c s; decide
    rw [h]; rfl
  · refine (k0_off3_eq c s).trans ?_
    have h : ((c.val + 14) - s.val) % 8 = ((fr true)^[s.val + 2] c).val := by revert c s; decide
    rw [h]; rfl

theorem rowO_half (δ : Bool) (j : Fin 2) : rowO δ j = rowO δ 0 + 128 * j.val := by
  unfold rowO; simp

/-- What step `s` adds, at an index. -/
theorem prodS_apply (δ : Bool) (s : ℕ) (hs : s < 7) (c : Dev nD) (j : Fin 2) (r : Fin 128) (b : Fin 8192) (a : Fin 256) (ha : a.val = 128 * j.val + r.val) :
    prodS m δ s c (ix2 a b) = part m c (rowG ((fr δ)^[s + 2] c) δ j r) b := by
  rw [show prodS m δ s c = mmP (xAt m c (offS δ c ⟨s, hs⟩) (offS_inb δ c ⟨s, hs⟩)) (wS m c) from prodS_val m δ ⟨s, hs⟩ c, mmP_apply]
  refine Finset.sum_congr rfl fun k _ => ?_
  rw [xAt_apply m c _ _ _ (offS_eq δ c ⟨s, hs⟩) a k (rowG ((fr δ)^[s + 2] c) δ j r)]
  · rfl
  show 512 * ((fr δ)^[s + 2] c).val + rowO δ j + r.val = _
  rw [rowO_half, ha]; show _ = 512 * ((fr δ)^[s + 2] c).val + rowO δ 0 + (128 * j.val + r.val); omega

/-- What the ring starts from, at an index. -/
theorem prodI_apply (δ : Bool) (c : Dev nD) (j : Fin 2) (z : Fin 1) (r : Fin 128) (b : Fin 8192) (a : Fin 256) (ha : a.val = 128 * j.val + r.val) :
    prodI m δ c (ix3 z a b) = part m c (rowG (fr δ c) δ j r) b := by
  unfold prodI
  rw [pay1_apply, mmP_apply]
  refine Finset.sum_congr rfl fun k _ => ?_
  rw [xAt_apply m c _ _ _ (offI_eq δ c) a k (rowG (fr δ c) δ j r)]
  · rfl
  show 512 * (fr δ c).val + rowO δ j + r.val = _
  rw [rowO_half, ha]; omega

/-- What device `c` sends at step `s`: the shares of the `s + 1` devices up to it, of rows that end `s + 1` devices back. -/
theorem sentV_apply (δ : Bool) (j : Fin 2) (r : Fin 128) (b : Fin 8192) (z : Fin 1) : ∀ (s : ℕ) (hs : s < 7) (c : Dev nD),
    sentV m δ j s c (ix3 z r b) = ∑ t ∈ Finset.range (s + 1), part m ((fr δ)^[t] c) (rowG ((fr δ)^[s + 1] c) δ j r) b
  | 0, _, c => by
    have ha : (⟨128 * j.val + r.val, by omega⟩ : Fin 256).val = 128 * j.val + r.val := rfl
    show half j (prodI m δ c) (ix3 z r b) = _
    rw [half_apply j _ z r b _ ha, prodI_apply m δ c j z r b _ ha, Finset.sum_range_one]
    rfl
  | s + 1, hs, c => by
    have ha : (⟨128 * j.val + r.val, by omega⟩ : Fin 256).val = 128 * j.val + r.val := rfl
    show accP j (prodS m δ s c) (sentV m δ j s (fr δ c)) (ix3 z r b) = _
    rw [accP_apply, outP_apply j _ _ r b _ ha, sentV_apply δ j r b 0 s (by omega) (fr δ c), prodS_apply m δ s (by omega) c j r b _ ha,
      Finset.sum_range_succ' _ (s + 1)]
    rfl

/-- Going round in either direction meets every device once. -/
theorem round_bij : ∀ (δ : Bool) (c : Dev nD), Function.Bijective fun t : Fin 8 => (fr δ)^[t.val] c := by decide +kernel
theorem round_end : ∀ (δ : Bool) (c : Dev nD), (fr δ)^[8] c = c := by decide

/-- The result's rows of direction `δ`: the shares of all devices. -/
theorem outV_apply (δ : Bool) (j : Fin 2) (r : Fin 128) (b : Fin 8192) (c : Dev nD) :
    outV m δ j c (ix2 r b) = ∑ e : Dev nD, part m e (rowG c δ j r) b := by
  have ha : (⟨128 * j.val + r.val, by omega⟩ : Fin 256).val = 128 * j.val + r.val := rfl
  have h1 : outV m δ j c (ix2 r b) = ∑ t ∈ Finset.range 8, part m ((fr δ)^[t] c) (rowG ((fr δ)^[8] c) δ j r) b := by
    unfold outV
    rw [outP_apply j _ _ r b _ ha, sentV_apply m δ j r b 0 6 (by omega) (fr δ c), prodS_apply m δ 6 (by omega) c j r b _ ha,
      Finset.sum_range_succ' _ 7]
    rfl
  rw [h1, round_end, Finset.sum_range]
  exact Fintype.sum_bijective _ (round_bij δ c) _ _ fun t => rfl

/-- The kernel's result on device `c` at an index. -/
theorem outAt_apply (c : Dev nD) (a : Fin 512) (b : Fin 8192) (R : Fin 4096) (hR : R.val = 512 * c.val + a.val) :
    (show FVec Ideal S512x8192 .f32 from outAt m c) (ix2 a b) = ∑ e : Dev nD, part m e R b := by
  have key : ∀ (δ : Bool) (j : Fin 2), rowO δ j + a.val % 128 = a.val →
      outV m δ j c (rowIn (ix2 a b)) = ∑ e : Dev nD, part m e R b := fun δ j h => by
    have e : rowIn (ix2 a b) = ix2 (⟨a.val % 128, Nat.mod_lt _ (by decide)⟩ : Fin 128) b := by
      funext d
      match d with
      | ⟨0, _⟩ => rfl
      | ⟨1, _⟩ => rfl
    rw [e, outV_apply]
    refine Finset.sum_congr rfl fun e _ => congrArg (part m e · b) (Fin.ext ?_)
    show 512 * c.val + rowO δ j + a.val % 128 = R.val
    omega
  have hlt := a.isLt
  show (if a.val < 128 then outV m true 0 c (rowIn (ix2 a b)) else if a.val < 256 then outV m true 1 c (rowIn (ix2 a b))
    else if a.val < 384 then outV m false 0 c (rowIn (ix2 a b)) else outV m false 1 c (rowIn (ix2 a b))) = _
  split
  · exact key true 0 (by show 0 + 128 * 0 + a.val % 128 = a.val; omega)
  split
  · exact key true 1 (by show 0 + 128 * 1 + a.val % 128 = a.val; omega)
  split
  · exact key false 0 (by show 256 + 128 * 0 + a.val % 128 = a.val; omega)
  · exact key false 1 (by show 256 + 128 * 1 + a.val % 128 = a.val; omega)

/-! ## Against the whole product -/

/-- The reference's value: the product of the whole arrays, rounded once and widened again. -/
abbrev refV (A : FVec Ideal Cert.ReferenceIdeal.S4096x4096 .bf16) (B : FVec Ideal Cert.ReferenceIdeal.S4096x8192 .bf16) : FVec Ideal Cert.ReferenceIdeal.S4096x8192 .f32 :=
  extf .f32 (truncf .bf16 (Host.dotGeneral Cert.ReferenceIdeal.dot_S4096x4096_S4096x8192_S4096x8192_1_0_0_1_n_n none A B) Cert.ReferenceIdeal.Facts₀.bitsLt_bf16_f32) Cert.ReferenceIdeal.Facts₀.bitsLt_bf16_f32

/-- The reference's value at an index. -/
theorem refV_apply (A : FVec Ideal Cert.ReferenceIdeal.S4096x4096 .bf16) (B : FVec Ideal Cert.ReferenceIdeal.S4096x8192 .bf16) (r : Fin 4096) (b : Fin 8192) :
    refV A B (ix2 r b) = ∑ k : Fin 4096, A (ix2 r k) * B (ix2 k b) :=
  StackMember.dotGeneral_plain_apply (m := 4096) (k := 4096) (n := 8192) (φ₁ := .bf16) (φ₂ := .bf16) none A B r b

/-- If every device holds its block of columns of `A` and of rows of `B`, the kernel's result on device `c` is block `c` of the
    reference's value. -/
theorem outAt_block (A : FVec Ideal Cert.ReferenceIdeal.S4096x4096 .bf16) (B : FVec Ideal Cert.ReferenceIdeal.S4096x8192 .bf16)
    (hA : Layout.Tiles ⟨2, ![4096, 512]⟩ ⟨2, ![4096, 4096]⟩ 1 8) (hB : Layout.Tiles ⟨2, ![512, 8192]⟩ ⟨2, ![4096, 8192]⟩ 0 8)
    (hx : ∀ c : Dev nD, m ((c : Thread nD τ).loc main_arg0) = Layout.block ⟨2, ![4096, 512]⟩ ⟨2, ![4096, 4096]⟩ 1 8 c A hA)
    (hw : ∀ c : Dev nD, m ((c : Thread nD τ).loc main_arg1) = Layout.block ⟨2, ![512, 8192]⟩ ⟨2, ![4096, 8192]⟩ 0 8 c B hB)
    (c : Dev nD) : outAt m c = Layout.block ⟨2, ![512, 8192]⟩ ⟨2, ![4096, 8192]⟩ 0 8 c (refV A B) hB := by
  have hc : c.val < 8 := c.isLt
  have key : ∀ (a : Fin 512) (b : Fin 8192), (show FVec Ideal S512x8192 .f32 from outAt m c) (ix2 a b) = refV A B (hB.idx c (ix2 a b)) := by
    intro a b
    have e : hB.idx c (ix2 a b) = ix2 (⟨c.val * 512 + a.val, by omega⟩ : Fin 4096) b := by
      funext d
      match d with
      | ⟨0, _⟩ => rfl
      | ⟨1, _⟩ => rfl
    rw [e, refV_apply, outAt_apply m c a b ⟨c.val * 512 + a.val, by omega⟩ (by show c.val * 512 + a.val = _; omega), Fin.sum_univ_tiles 8 512 rfl]
    refine Finset.sum_congr rfl fun d _ => Finset.sum_congr rfl fun k _ => ?_
    unfold xE wE
    rw [xS_eq, wS_eq, hx d, hw d]
    refine congrArg₂ (· * ·) (congrArg A (funext fun q => ?_)) (congrArg B (funext fun q => ?_))
    all_goals
      match q with
      | ⟨0, _⟩ => rfl
      | ⟨1, _⟩ => rfl
  exact funext fun i => (congrArg (outAt m c) (eq_ix2 (n0 := 512) (n1 := 8192) i)).trans
    ((key (i 0) (i 1)).trans (congrArg (fun y => refV A B (hB.idx c y)) (eq_ix2 (n0 := 512) (n1 := 8192) i).symm))

end Cert.KernelIdeal.RingPf
-- ==== Proof.lean ====
/-
  The proof of `Cert.Claim`: the kernel of the statement on eight devices, as printed and in exact arithmetic, runs, keeps its
  arguments and leaves every counter at zero (`Bits.Launch` and `Ideal.Launch`, one text at two instances of the program);
  its idealization rewrote nothing; and in exact arithmetic its result is, device by device, the block of the one-device
  product (`Value`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Bits.Launch
public import proofs.«01_k».proof.Proof.Ideal.Launch
public import proofs.«01_k».proof.Proof.Value
public import Idealize.ShloMosaic.Adequacy
public import Idealize.ShloMosaic.Init

@[expose] public section

noncomputable section

namespace Cert.Proof

open Idealize.ShloMosaic Idealize.SL.Sem

/-- The kernel as printed runs, keeps its arguments and ends with every counter at zero. -/
theorem frame_kernel : Cert.quiescent_Kernel := by
  intro m g _
  exact (θ_run Cert.Kernel.defs _ _).mono
    (fun _ h => ⟨fun c => ⟨(h.1 c (0 : Fin 3)).trans (Cert.Kernel.RingPf.finalA_x m g c), (h.1 c (1 : Fin 3)).trans (Cert.Kernel.RingPf.finalA_w m g c)⟩, h.2⟩)
    (Cert.Kernel.RingPf.run_main (F := Bits) m g)

/-- The same of the kernel in exact arithmetic. -/
theorem frame_kernelIdeal : Cert.quiescent_KernelIdeal := by
  intro m g _
  exact (θ_run Cert.KernelIdeal.defs _ _).mono
    (fun _ h => ⟨fun c => ⟨(h.1 c (0 : Fin 3)).trans (Cert.KernelIdeal.RingPf.finalA_x m g c), (h.1 c (1 : Fin 3)).trans (Cert.KernelIdeal.RingPf.finalA_w m g c)⟩, h.2⟩)
    (Cert.KernelIdeal.RingPf.run_main (F := Ideal) m g)

/-- The reference runs and keeps its arguments; it has no counter. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- Each device's result is its block of the reference's. -/
theorem algebraic_kernel : Cert.algebraic_KernelIdeal_ReferenceIdeal := by
  intro m g m' g' _ hag
  refine ⟨Cert.KernelIdeal.RingPf.refV (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono
      (fun _ h c => ⟨(h.1 c (2 : Fin 3)).trans ?_, (h.1 c (0 : Fin 3)).trans (Cert.KernelIdeal.RingPf.finalA_x m g c), (h.1 c (1 : Fin 3)).trans (Cert.KernelIdeal.RingPf.finalA_w m g c)⟩)
      (Cert.KernelIdeal.RingPf.run_main (F := Ideal) m g)
    exact (Cert.KernelIdeal.RingPf.finalA_o m g c).trans
      (Cert.KernelIdeal.RingPf.outAt_block m _ _ (by decide) (by decide) (fun d => (hag d).1) (fun d => (hag d).2) c)
  · exact (θ_run Cert.ReferenceIdeal.defs _ _).mono (fun _ h => h 0) (Cert.ReferenceIdeal.Value.run (F := Ideal) m' g')

/-- The claims of the statement together. -/
theorem claim : Cert.Claim :=
  ⟨Cert.Kernel.Gen.facts, Cert.KernelIdeal.Gen.facts, Cert.ReferenceIdeal.Gen.facts,
    frame_kernel, frame_kernelIdeal, frame_reference, trivial, algebraic_kernel⟩

end Cert.Proof

end
